-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nodes_and_scores_proper [hPre_nodes_and_scores_proper : Cert.Pre_nodes_and_scores_proper.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_and_scores_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_nodes_and_scores_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_nodes_and_scores_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_nodes_and_scores_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_nodes_and_scores_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_nodes_and_scores_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_nodes_and_scores_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_nodes_and_scores_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_nodes_and_scores_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nodes_and_scores_proper [hPre_nodes_and_scores_proper : Cert.Pre_nodes_and_scores_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nodes_and_scores_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_nodes_and_scores_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_nodes_and_scores_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_nodes_and_scores_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_nodes_and_scores_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_nodes_and_scores_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_nodes_and_scores_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_nodes_and_scores_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_nodes_and_scores_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_nodes_and_scores_proper [hKernelIdeal : Cert.KernelIdeal.Facts] [hPre_nodes_and_scores_proper : Cert.Pre_nodes_and_scores_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nodes_and_scores_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_nodes_and_scores_proper [hReferenceIdeal : Cert.ReferenceIdeal.Facts] [hPre_nodes_and_scores_proper : Cert.Pre_nodes_and_scores_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nodes_and_scores_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_nodes_and_scores_proper [hKernelIdeal : Cert.KernelIdeal.Facts] [hReferenceIdeal : Cert.ReferenceIdeal.Facts] [hPre_nodes_and_scores_proper : Cert.Pre_nodes_and_scores_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nodes_and_scores_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_nodes_and_scores_proper : Cert.Pre_nodes_and_scores_proper.Facts),
    quiescent_Kernel (hKernel := hKernel)
    ∧ quiescent_KernelIdeal (hKernelIdeal := hKernelIdeal)
    ∧ quiescent_KernelIdeal_pre_nodes_and_scores_proper (hKernelIdeal := hKernelIdeal) (hPre_nodes_and_scores_proper := hPre_nodes_and_scores_proper)
    ∧ quiescent_ReferenceIdeal (hReferenceIdeal := hReferenceIdeal)
    ∧ quiescent_ReferenceIdeal_pre_nodes_and_scores_proper (hReferenceIdeal := hReferenceIdeal) (hPre_nodes_and_scores_proper := hPre_nodes_and_scores_proper)
    ∧ preserves_Kernel_KernelIdeal
    ∧ algebraic_KernelIdeal_ReferenceIdeal_pre_nodes_and_scores_proper (hKernelIdeal := hKernelIdeal) (hReferenceIdeal := hReferenceIdeal) (hPre_nodes_and_scores_proper := hPre_nodes_and_scores_proper)
-- ==== Pre_nodes_and_scores_proper.lean ====
abbrev S768x256 : Shape := ⟨2, ![768, 256]⟩
abbrev S768 : Shape := ⟨1, ![768]⟩
abbrev S512x512 : Shape := ⟨2, ![512, 512]⟩
abbrev S512 : Shape := ⟨1, ![512]⟩
abbrev S512x1 : Shape := ⟨2, ![512, 1]⟩
abbrev S1 : Shape := ⟨1, ![1]⟩
abbrev S256x256 : Shape := ⟨2, ![256, 256]⟩
abbrev S256 : Shape := ⟨1, ![256]⟩
abbrev S_ : Shape := ⟨0, ![]⟩
abbrev S768x1 : Shape := ⟨2, ![768, 1]⟩
abbrev S1x768 : Shape := ⟨2, ![1, 768]⟩
abbrev S768x768 : Shape := ⟨2, ![768, 768]⟩

class Facts : Prop where
  bcast_S_S768 : S_.BroadcastsInDim S768 (![] : Fin 0 → Fin S768.rank)
  bcast_S768_S768x1_0 : S768.BroadcastsInDim S768x1 (![0] : Fin 1 → Fin S768x1.rank)
  bcast_S768_S1x768_1 : S768.BroadcastsInDim S1x768 (![1] : Fin 1 → Fin S1x768.rank)
  bcast_S768x1_S768x768_0_1 : S768x1.BroadcastsInDim S768x768 (![0, 1] : Fin 2 → Fin S768x768.rank)
  bcast_S1x768_S768x768_0_1 : S1x768.BroadcastsInDim S768x768 (![0, 1] : Fin 2 → Fin S768x768.rank)
  bcast_S_S768x768 : S_.BroadcastsInDim S768x768 (![] : Fin 0 → Fin S768x768.rank)
  bcast_S_S768x256 : S_.BroadcastsInDim S768x256 (![] : Fin 0 → Fin S768x256.rank)
  bcast_S_S512x512 : S_.BroadcastsInDim S512x512 (![] : Fin 0 → Fin S512x512.rank)
  bcast_S_S512 : S_.BroadcastsInDim S512 (![] : Fin 0 → Fin S512.rank)
  bcast_S_S512x1 : S_.BroadcastsInDim S512x1 (![] : Fin 0 → Fin S512x1.rank)
  bcast_S_S1 : S_.BroadcastsInDim S1 (![] : Fin 0 → Fin S1.rank)

variable [Facts]

def fn_part1 {F : FTy → Type} [FloatOps F] (main_arg3 : FVec F S512 .f32) (main_arg4 : FVec F S512x512 .f32) (main_arg5 : FVec F S512 .f32) (main_arg6 : FVec F S512x1 .f32) (main_arg7 : FVec F S1 .f32) (main_v4 : IVec S768 1) (main_v15 : IVec S768x768 1) (main_v18 : IVec S768x256 1) (main_v19 : FVec F S512x512 .f32) : IVec S768 1 × IVec S768x768 1 × IVec S768x256 1 × IVec S512x512 1 × IVec S512 1 × IVec S512x512 1 × IVec S512 1 × IVec S512x1 1 × IVec S1 1 :=
  let main_cst_2 : FVec F S_ .f32 := constant S_ .f32 0x7F800000#32
  let main_v20 : FVec F S512x512 .f32 := broadcastInDim S512x512 ![] bcast_S_S512x512 main_cst_2
  let main_v21 : IVec S512x512 1 := cmpf .olt main_v19 main_v20
  let main_v22 : FVec F S512 .f32 := Host.absf main_arg3
  let main_cst_3 : FVec F S_ .f32 := constant S_ .f32 0x7F800000#32
  let main_v23 : FVec F S512 .f32 := broadcastInDim S512 ![] bcast_S_S512 main_cst_3
  let main_v24 : IVec S512 1 := cmpf .olt main_v22 main_v23
  let main_v25 : FVec F S512x512 .f32 := Host.absf main_arg4
  let main_cst_4 : FVec F S_ .f32 := constant S_ .f32 0x7F800000#32
  let main_v26 : FVec F S512x512 .f32 := broadcastInDim S512x512 ![] bcast_S_S512x512 main_cst_4
  let main_v27 : IVec S512x512 1 := cmpf .olt main_v25 main_v26
  let main_v28 : FVec F S512 .f32 := Host.absf main_arg5
  let main_cst_5 : FVec F S_ .f32 := constant S_ .f32 0x7F800000#32
  let main_v29 : FVec F S512 .f32 := broadcastInDim S512 ![] bcast_S_S512 main_cst_5
  let main_v30 : IVec S512 1 := cmpf .olt main_v28 main_v29
  let main_v31 : FVec F S512x1 .f32 := Host.absf main_arg6
  let main_cst_6 : FVec F S_ .f32 := constant S_ .f32 0x7F800000#32
  let main_v32 : FVec F S512x1 .f32 := broadcastInDim S512x1 ![] bcast_S_S512x1 main_cst_6
  let main_v33 : IVec S512x1 1 := cmpf .olt main_v31 main_v32
  let main_v34 : FVec F S1 .f32 := Host.absf main_arg7
  let main_cst_7 : FVec F S_ .f32 := constant S_ .f32 0x7F800000#32
  let main_v35 : FVec F S1 .f32 := broadcastInDim S1 ![] bcast_S_S1 main_cst_7
  let main_v36 : IVec S1 1 := cmpf .olt main_v34 main_v35
  (main_v4, main_v15, main_v18, main_v21, main_v24, main_v27, main_v30, main_v33, main_v36)

def fn {F : FTy → Type} [FloatOps F] (main_arg0 : FVec F S768x256 .f32) (main_arg1 : IVec S768 32) (main_arg2 : FVec F S512x512 .f32) (main_arg3 : FVec F S512 .f32) (main_arg4 : FVec F S512x512 .f32) (main_arg5 : FVec F S512 .f32) (main_arg6 : FVec F S512x1 .f32) (main_arg7 : FVec F S1 .f32) (main_arg8 : FVec F S256x256 .f32) (main_arg9 : FVec F S256 .f32) (main_arg10 : FVec F S256x256 .f32) (main_arg11 : FVec F S256 .f32) : IVec S768 1 × IVec S768x768 1 × IVec S768x256 1 × IVec S512x512 1 × IVec S512 1 × IVec S512x512 1 × IVec S512 1 × IVec S512x1 1 × IVec S1 1 :=
  let main_c : IVec S_ 32 := constantI S_ 32 0#32
  let main_v0 : IVec S768 32 := broadcastInDim S768 ![] bcast_S_S768 main_c
  let main_v1 : IVec S768 1 := cmpi .sge main_arg1 main_v0
  let main_c_0 : IVec S_ 32 := constantI S_ 32 768#32
  let main_v2 : IVec S768 32 := broadcastInDim S768 ![] bcast_S_S768 main_c_0
  let main_v3 : IVec S768 1 := cmpi .slt main_arg1 main_v2
  let main_v4 : IVec S768 1 := andi main_v1 main_v3
  let main_v5 : IVec S768x1 32 := broadcastInDim S768x1 ![0] bcast_S768_S768x1_0 main_arg1
  let main_v6 : IVec S1x768 32 := broadcastInDim S1x768 ![1] bcast_S768_S1x768_1 main_arg1
  let main_v7 : IVec S768x768 32 := broadcastInDim S768x768 ![0, 1] bcast_S768x1_S768x768_0_1 main_v5
  let main_v8 : IVec S768x768 32 := broadcastInDim S768x768 ![0, 1] bcast_S1x768_S768x768_0_1 main_v6
  let main_v9 : IVec S768x768 1 := cmpi .ne main_v7 main_v8
  let main_v10 : IVec S768x768 32 := iotaInDim S768x768 32 0
  let main_v11 : IVec S768x768 32 := iotaInDim S768x768 32 1
  let main_c_1 : IVec S_ 32 := constantI S_ 32 0#32
  let main_v12 : IVec S768x768 32 := broadcastInDim S768x768 ![] bcast_S_S768x768 main_c_1
  let main_v13 : IVec S768x768 32 := addi main_v10 main_v12
  let main_v14 : IVec S768x768 1 := cmpi .eq main_v13 main_v11
  let main_v15 : IVec S768x768 1 := ori main_v9 main_v14
  let main_v16 : FVec F S768x256 .f32 := Host.absf main_arg0
  let main_cst : FVec F S_ .f32 := constant S_ .f32 0x7F800000#32
  let main_v17 : FVec F S768x256 .f32 := broadcastInDim S768x256 ![] bcast_S_S768x256 main_cst
  let main_v18 : IVec S768x256 1 := cmpf .olt main_v16 main_v17
  let main_v19 : FVec F S512x512 .f32 := Host.absf main_arg2
  fn_part1 (F := F) main_arg3 main_arg4 main_arg5 main_arg6 main_arg7 main_v4 main_v15 main_v18 main_v19
-- ==== Kernel.lean ====
abbrev S768x256 : Shape := ⟨2, ![768, 256]⟩
abbrev S768 : Shape := ⟨1, ![768]⟩
abbrev S512x512 : Shape := ⟨2, ![512, 512]⟩
abbrev S512 : Shape := ⟨1, ![512]⟩
abbrev S512x1 : Shape := ⟨2, ![512, 1]⟩
abbrev S1 : Shape := ⟨1, ![1]⟩
abbrev S256x256 : Shape := ⟨2, ![256, 256]⟩
abbrev S256 : Shape := ⟨1, ![256]⟩
abbrev S1x256 : Shape := ⟨2, ![1, 256]⟩
abbrev S768x768 : Shape := ⟨2, ![768, 768]⟩

abbrev nBuf : Space → Nat
  | .hbm => 15
  | .vmem => 6
  | .smem => 0
  | _ => 0

abbrev bufTy : (tb : Table) → Fin (tcTables nBuf tb) → BufTy
  | .hbm, ⟨0, _⟩ => ⟨S768x256, .f32⟩
  | .hbm, ⟨1, _⟩ => ⟨S768, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S1x256, .f32⟩
  | .hbm, ⟨13, _⟩ => ⟨S1x256, .f32⟩
  | .hbm, ⟨14, _⟩ => ⟨S768x256, .f32⟩
  | .local _ .vmem, ⟨0, _⟩ => ⟨S768x256, .f32⟩
  | .local _ .vmem, ⟨1, _⟩ => ⟨S256x256, .f32⟩
  | .local _ .vmem, ⟨2, _⟩ => ⟨S1x256, .f32⟩
  | .local _ .vmem, ⟨3, _⟩ => ⟨S256x256, .f32⟩
  | .local _ .vmem, ⟨4, _⟩ => ⟨S1x256, .f32⟩
  | .local _ .vmem, ⟨5, _⟩ => ⟨S768x256, .f32⟩
  | _, _ => ⟨S768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S768x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S768x256 : Shape := ⟨2, ![768, 256]⟩
abbrev S768 : Shape := ⟨1, ![768]⟩
abbrev S512x512 : Shape := ⟨2, ![512, 512]⟩
abbrev S512 : Shape := ⟨1, ![512]⟩
abbrev S512x1 : Shape := ⟨2, ![512, 1]⟩
abbrev S1 : Shape := ⟨1, ![1]⟩
abbrev S256x256 : Shape := ⟨2, ![256, 256]⟩
abbrev S256 : Shape := ⟨1, ![256]⟩
abbrev S_ : Shape := ⟨0, ![]⟩
abbrev S768x1 : Shape := ⟨2, ![768, 1]⟩
abbrev S768x768 : Shape := ⟨2, ![768, 768]⟩
abbrev S589824 : Shape := ⟨1, ![589824]⟩
abbrev S294528 : Shape := ⟨1, ![294528]⟩
abbrev S589824x1 : Shape := ⟨2, ![589824, 1]⟩
abbrev S294528x1 : Shape := ⟨2, ![294528, 1]⟩
abbrev S294528x256 : Shape := ⟨2, ![294528, 256]⟩
abbrev S294528x512 : Shape := ⟨2, ![294528, 512]⟩
abbrev S1x512 : Shape := ⟨2, ![1, 512]⟩
abbrev S1x1 : Shape := ⟨2, ![1, 1]⟩
abbrev S1x294528 : Shape := ⟨2, ![1, 294528]⟩
abbrev S295296 : Shape := ⟨1, ![295296]⟩
abbrev S295296x1 : Shape := ⟨2, ![295296, 1]⟩
abbrev S295296x256 : Shape := ⟨2, ![295296, 256]⟩
abbrev S1x256 : Shape := ⟨2, ![1, 256]⟩

abbrev nBuf : Space → Nat
  | .hbm => 393
  | .vmem => 0
  | .smem => 0
  | _ => 0

abbrev hbmTy0_0 (i : Nat) : BufTy := match i % 128 with
  | 0 => ⟨S768x256, .f32⟩
  | 1 => ⟨S768, .i32⟩
  | 2 => ⟨S512x512, .f32⟩
  | 3 => ⟨S512, .f32⟩
  | 4 => ⟨S512x512, .f32⟩
  | 5 => ⟨S512, .f32⟩
  | 6 => ⟨S512x1, .f32⟩
  | 7 => ⟨S1, .f32⟩
  | 8 => ⟨S256x256, .f32⟩
  | 9 => ⟨S256, .f32⟩
  | 10 => ⟨S256x256, .f32⟩
  | 11 => ⟨S256, .f32⟩
  | 12 => ⟨S_, .f32⟩
  | 13 => ⟨S768x256, .f32⟩
  | 14 => ⟨S_, .i32⟩
  | 15 => ⟨S768, .i32⟩
  | 16 => ⟨S768, .i1⟩
  | 17 => ⟨S_, .i32⟩
  | 18 => ⟨S768, .i32⟩
  | 19 => ⟨S768, .i32⟩
  | 20 => ⟨S768, .i32⟩
  | 21 => ⟨S768x1, .i32⟩
  | 22 => ⟨S768x256, .f32⟩
  | 23 => ⟨S_, .f32⟩
  | 24 => ⟨S768x768, .f32⟩
  | 25 => ⟨S768x768, .i32⟩
  | 26 => ⟨S_, .i32⟩
  | 27 => ⟨S768x768, .i32⟩
  | 28 => ⟨S768x768, .i32⟩
  | 29 => ⟨S768x768, .i32⟩
  | 30 => ⟨S768x768, .i1⟩
  | 31 => ⟨S_, .f32⟩
  | 32 => ⟨S768x768, .f32⟩
  | 33 => ⟨S768x768, .f32⟩
  | 34 => ⟨S589824, .f32⟩
  | 35 => ⟨S_, .f32⟩
  | 36 => ⟨S589824, .f32⟩
  | 37 => ⟨S589824, .i1⟩
  | 38 => ⟨S589824, .i32⟩
  | 39 => ⟨S_, .i32⟩
  | 40 => ⟨S_, .i32⟩
  | 41 => ⟨S589824, .i32⟩
  | 42 => ⟨S_, .i32⟩
  | 43 => ⟨S294528, .i32⟩
  | 44 => ⟨S_, .i32⟩
  | 45 => ⟨S589824, .i32⟩
  | 46 => ⟨S589824, .i1⟩
  | 47 => ⟨S_, .i32⟩
  | 48 => ⟨S589824, .i32⟩
  | 49 => ⟨S589824, .i32⟩
  | 50 => ⟨S589824, .i32⟩
  | 51 => ⟨S589824x1, .i32⟩
  | 52 => ⟨S_, .i32⟩
  | 53 => ⟨S589824, .i32⟩
  | 54 => ⟨S294528, .i32⟩
  | 55 => ⟨S_, .i32⟩
  | 56 => ⟨S_, .i32⟩
  | 57 => ⟨S294528, .i32⟩
  | 58 => ⟨S_, .i32⟩
  | 59 => ⟨S_, .i32⟩
  | 60 => ⟨S294528, .i32⟩
  | 61 => ⟨S294528, .i32⟩
  | 62 => ⟨S294528, .i32⟩
  | 63 => ⟨S_, .i32⟩
  | 64 => ⟨S294528, .i32⟩
  | 65 => ⟨S294528, .i1⟩
  | 66 => ⟨S294528, .i32⟩
  | 67 => ⟨S294528, .i32⟩
  | 68 => ⟨S_, .i32⟩
  | 69 => ⟨S294528, .i32⟩
  | 70 => ⟨S294528, .i1⟩
  | 71 => ⟨S294528, .i1⟩
  | 72 => ⟨S_, .i32⟩
  | 73 => ⟨S294528, .i32⟩
  | 74 => ⟨S294528, .i32⟩
  | 75 => ⟨S294528, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S294528, .i32⟩
  | 83 => ⟨S294528, .i32⟩
  | 84 => ⟨S_, .i32⟩
  | 85 => ⟨S294528, .i32⟩
  | 86 => ⟨S294528, .i1⟩
  | 87 => ⟨S_, .i32⟩
  | 88 => ⟨S294528, .i32⟩
  | 89 => ⟨S294528, .i1⟩
  | 90 => ⟨S_, .i32⟩
  | 91 => ⟨S_, .i1⟩
  | 92 => ⟨S294528, .i1⟩
  | 93 => ⟨S294528, .i1⟩
  | 94 => ⟨S294528, .i1⟩
  | 95 => ⟨S294528, .i32⟩
  | 96 => ⟨S294528, .i32⟩
  | 97 => ⟨S294528, .i32⟩
  | 98 => ⟨S_, .i32⟩
  | 99 => ⟨S_, .i32⟩
  | 100 => ⟨S294528, .i32⟩
  | 101 => ⟨S294528, .i32⟩
  | 102 => ⟨S294528, .i32⟩
  | 103 => ⟨S_, .i32⟩
  | 104 => ⟨S294528, .i32⟩
  | 105 => ⟨S294528, .i1⟩
  | 106 => ⟨S294528, .i32⟩
  | 107 => ⟨S294528, .i32⟩
  | 108 => ⟨S_, .i32⟩
  | 109 => ⟨S294528, .i32⟩
  | 110 => ⟨S294528, .i1⟩
  | 111 => ⟨S294528, .i1⟩
  | 112 => ⟨S_, .i32⟩
  | 113 => ⟨S294528, .i32⟩
  | 114 => ⟨S294528, .i32⟩
  | 115 => ⟨S294528, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S294528, .i32⟩
  | 123 => ⟨S294528, .i32⟩
  | 124 => ⟨S_, .i32⟩
  | 125 => ⟨S294528, .i32⟩
  | 126 => ⟨S294528, .i1⟩
  | 127 => ⟨S_, .i32⟩
  | _ => ⟨S768x256, .f32⟩

abbrev hbmTy0_1 (i : Nat) : BufTy := match i % 128 with
  | 0 => ⟨S294528, .i32⟩
  | 1 => ⟨S294528, .i1⟩
  | 2 => ⟨S_, .i32⟩
  | 3 => ⟨S_, .i1⟩
  | 4 => ⟨S294528, .i1⟩
  | 5 => ⟨S294528, .i1⟩
  | 6 => ⟨S294528, .i1⟩
  | 7 => ⟨S294528, .i32⟩
  | 8 => ⟨S294528, .i32⟩
  | 9 => ⟨S294528, .i32⟩
  | 10 => ⟨S589824, .i32⟩
  | 11 => ⟨S_, .i32⟩
  | 12 => ⟨S_, .i32⟩
  | 13 => ⟨S1, .i32⟩
  | 14 => ⟨S294528, .i32⟩
  | 15 => ⟨S294528, .i32⟩
  | 16 => ⟨S294528, .i1⟩
  | 17 => ⟨S_, .i32⟩
  | 18 => ⟨S_, .i32⟩
  | 19 => ⟨S294528, .i32⟩
  | 20 => ⟨S294528, .i32⟩
  | 21 => ⟨S_, .i32⟩
  | 22 => ⟨S_, .i32⟩
  | 23 => ⟨S294528, .i32⟩
  | 24 => ⟨S294528, .i32⟩
  | 25 => ⟨S_, .i32⟩
  | 26 => ⟨S294528, .i32⟩
  | 27 => ⟨S294528, .i1⟩
  | 28 => ⟨S_, .i32⟩
  | 29 => ⟨S294528, .i32⟩
  | 30 => ⟨S294528, .i32⟩
  | 31 => ⟨S294528, .i32⟩
  | 32 => ⟨S294528x1, .i32⟩
  | 33 => ⟨S294528, .i32⟩
  | 34 => ⟨S_, .i32⟩
  | 35 => ⟨S294528, .i32⟩
  | 36 => ⟨S294528, .i1⟩
  | 37 => ⟨S_, .i32⟩
  | 38 => ⟨S294528, .i32⟩
  | 39 => ⟨S294528, .i32⟩
  | 40 => ⟨S294528, .i32⟩
  | 41 => ⟨S294528x1, .i32⟩
  | 42 => ⟨S294528, .i32⟩
  | 43 => ⟨S_, .i32⟩
  | 44 => ⟨S294528, .i32⟩
  | 45 => ⟨S294528, .i1⟩
  | 46 => ⟨S_, .i32⟩
  | 47 => ⟨S294528, .i32⟩
  | 48 => ⟨S294528, .i32⟩
  | 49 => ⟨S294528, .i32⟩
  | 50 => ⟨S294528x1, .i32⟩
  | 51 => ⟨S294528x256, .f32⟩
  | 52 => ⟨S_, .i32⟩
  | 53 => ⟨S294528, .i32⟩
  | 54 => ⟨S294528, .i1⟩
  | 55 => ⟨S_, .i32⟩
  | 56 => ⟨S294528, .i32⟩
  | 57 => ⟨S294528, .i32⟩
  | 58 => ⟨S294528, .i32⟩
  | 59 => ⟨S294528x1, .i32⟩
  | 60 => ⟨S294528x256, .f32⟩
  | 61 => ⟨S294528x512, .f32⟩
  | 62 => ⟨S294528x512, .f32⟩
  | 63 => ⟨S1x512, .f32⟩
  | 64 => ⟨S294528x512, .f32⟩
  | 65 => ⟨S294528x512, .f32⟩
  | 66 => ⟨S_, .f32⟩
  | 67 => ⟨S294528x512, .f32⟩
  | 68 => ⟨S294528x512, .f32⟩
  | 69 => ⟨S294528x512, .f32⟩
  | 70 => ⟨S1x512, .f32⟩
  | 71 => ⟨S294528x512, .f32⟩
  | 72 => ⟨S294528x512, .f32⟩
  | 73 => ⟨S_, .f32⟩
  | 74 => ⟨S294528x512, .f32⟩
  | 75 => ⟨S294528x512, .f32⟩
  | 76 => ⟨S294528x1, .f32⟩
  | 77 => ⟨S1x1, .f32⟩
  | 78 => ⟨S294528x1, .f32⟩
  | 79 => ⟨S294528x1, .f32⟩
  | 80 => ⟨S1x294528, .f32⟩
  | 81 => ⟨S_, .f32⟩
  | 82 => ⟨S294528, .f32⟩
  | 83 => ⟨S_, .f32⟩
  | 84 => ⟨S294528, .f32⟩
  | 85 => ⟨S294528, .f32⟩
  | 86 => ⟨S1x294528, .f32⟩
  | 87 => ⟨S1x294528, .f32⟩
  | 88 => ⟨S1x294528, .f32⟩
  | 89 => ⟨S_, .f32⟩
  | 90 => ⟨S294528, .f32⟩
  | 91 => ⟨S1x294528, .f32⟩
  | 92 => ⟨S1x294528, .f32⟩
  | 93 => ⟨S294528x1, .f32⟩
  | 94 => ⟨S294528, .f32⟩
  | 95 => ⟨S768, .i32⟩
  | 96 => ⟨S295296, .i32⟩
  | 97 => ⟨S295296, .i32⟩
  | 98 => ⟨S_, .f32⟩
  | 99 => ⟨S768, .f32⟩
  | 100 => ⟨S295296, .f32⟩
  | 101 => ⟨S_, .f32⟩
  | 102 => ⟨S768, .f32⟩
  | 103 => ⟨S_, .i32⟩
  | 104 => ⟨S295296, .i32⟩
  | 105 => ⟨S295296, .i1⟩
  | 106 => ⟨S_, .i32⟩
  | 107 => ⟨S295296, .i32⟩
  | 108 => ⟨S295296, .i32⟩
  | 109 => ⟨S295296, .i32⟩
  | 110 => ⟨S295296x1, .i32⟩
  | 111 => ⟨S768, .f32⟩
  | 112 => ⟨S_, .f32⟩
  | 113 => ⟨S768, .f32⟩
  | 114 => ⟨S768, .i1⟩
  | 115 => ⟨S_, .f32⟩
  | 116 => ⟨S768, .f32⟩
  | 117 => ⟨S768, .i1⟩
  | 118 => ⟨S_, .f32⟩
  | 119 => ⟨S_, .f32⟩
  | 120 => ⟨S768, .f32⟩
  | 121 => ⟨S768, .f32⟩
  | 122 => ⟨S768, .f32⟩
  | 123 => ⟨S_, .f32⟩
  | 124 => ⟨S_, .f32⟩
  | 125 => ⟨S768, .f32⟩
  | 126 => ⟨S768, .f32⟩
  | 127 => ⟨S_, .i32⟩
  | _ => ⟨S768x256, .f32⟩

abbrev hbmTy0_2 (i : Nat) : BufTy := match i % 128 with
  | 0 => ⟨S295296, .i32⟩
  | 1 => ⟨S295296, .i1⟩
  | 2 => ⟨S_, .i32⟩
  | 3 => ⟨S295296, .i32⟩
  | 4 => ⟨S295296, .i32⟩
  | 5 => ⟨S295296, .i32⟩
  | 6 => ⟨S295296x1, .i32⟩
  | 7 => ⟨S295296, .f32⟩
  | 8 => ⟨S295296, .f32⟩
  | 9 => ⟨S_, .i32⟩
  | 10 => ⟨S295296, .i32⟩
  | 11 => ⟨S295296, .i1⟩
  | 12 => ⟨S_, .i32⟩
  | 13 => ⟨S295296, .i32⟩
  | 14 => ⟨S295296, .i32⟩
  | 15 => ⟨S295296, .i32⟩
  | 16 => ⟨S295296x1, .i32⟩
  | 17 => ⟨S295296, .f32⟩
  | 18 => ⟨S295296, .f32⟩
  | 19 => ⟨S768x256, .f32⟩
  | 20 => ⟨S_, .f32⟩
  | 21 => ⟨S768x256, .f32⟩
  | 22 => ⟨S295296x1, .f32⟩
  | 23 => ⟨S_, .i32⟩
  | 24 => ⟨S295296, .i32⟩
  | 25 => ⟨S295296, .i1⟩
  | 26 => ⟨S_, .i32⟩
  | 27 => ⟨S295296, .i32⟩
  | 28 => ⟨S295296, .i32⟩
  | 29 => ⟨S295296, .i32⟩
  | 30 => ⟨S295296x1, .i32⟩
  | 31 => ⟨S295296x256, .f32⟩
  | 32 => ⟨S295296x256, .f32⟩
  | 33 => ⟨S295296x256, .f32⟩
  | 34 => ⟨S_, .i32⟩
  | 35 => ⟨S295296, .i32⟩
  | 36 => ⟨S295296, .i1⟩
  | 37 => ⟨S_, .i32⟩
  | 38 => ⟨S295296, .i32⟩
  | 39 => ⟨S295296, .i32⟩
  | 40 => ⟨S295296, .i32⟩
  | 41 => ⟨S295296x1, .i32⟩
  | 42 => ⟨S768x256, .f32⟩
  | 43 => ⟨S1x256, .f32⟩
  | 44 => ⟨S768x256, .f32⟩
  | 45 => ⟨S768x256, .f32⟩
  | 46 => ⟨S_, .f32⟩
  | 47 => ⟨S768x256, .f32⟩
  | 48 => ⟨S768x256, .f32⟩
  | 49 => ⟨S768, .i32⟩
  | 50 => ⟨S295296, .i32⟩
  | 51 => ⟨S295296, .i32⟩
  | 52 => ⟨S_, .f32⟩
  | 53 => ⟨S768, .f32⟩
  | 54 => ⟨S295296, .f32⟩
  | 55 => ⟨S_, .f32⟩
  | 56 => ⟨S768, .f32⟩
  | 57 => ⟨S_, .i32⟩
  | 58 => ⟨S295296, .i32⟩
  | 59 => ⟨S295296, .i1⟩
  | 60 => ⟨S_, .i32⟩
  | 61 => ⟨S295296, .i32⟩
  | 62 => ⟨S295296, .i32⟩
  | 63 => ⟨S295296, .i32⟩
  | 64 => ⟨S295296x1, .i32⟩
  | 65 => ⟨S768, .f32⟩
  | 66 => ⟨S_, .f32⟩
  | 67 => ⟨S768, .f32⟩
  | 68 => ⟨S768, .i1⟩
  | 69 => ⟨S_, .f32⟩
  | 70 => ⟨S768, .f32⟩
  | 71 => ⟨S768, .i1⟩
  | 72 => ⟨S_, .f32⟩
  | 73 => ⟨S_, .f32⟩
  | 74 => ⟨S768, .f32⟩
  | 75 => ⟨S768, .f32⟩
  | 76 => ⟨S768, .f32⟩
  | 77 => ⟨S_, .f32⟩
  | 78 => ⟨S_, .f32⟩
  | 79 => ⟨S768, .f32⟩
  | 80 => ⟨S768, .f32⟩
  | 81 => ⟨S_, .i32⟩
  | 82 => ⟨S295296, .i32⟩
  | 83 => ⟨S295296, .i1⟩
  | 84 => ⟨S_, .i32⟩
  | 85 => ⟨S295296, .i32⟩
  | 86 => ⟨S295296, .i32⟩
  | 87 => ⟨S295296, .i32⟩
  | 88 => ⟨S295296x1, .i32⟩
  | 89 => ⟨S295296, .f32⟩
  | 90 => ⟨S295296, .f32⟩
  | 91 => ⟨S_, .i32⟩
  | 92 => ⟨S295296, .i32⟩
  | 93 => ⟨S295296, .i1⟩
  | 94 => ⟨S_, .i32⟩
  | 95 => ⟨S295296, .i32⟩
  | 96 => ⟨S295296, .i32⟩
  | 97 => ⟨S295296, .i32⟩
  | 98 => ⟨S295296x1, .i32⟩
  | 99 => ⟨S295296, .f32⟩
  | 100 => ⟨S295296, .f32⟩
  | 101 => ⟨S768x256, .f32⟩
  | 102 => ⟨S_, .f32⟩
  | 103 => ⟨S768x256, .f32⟩
  | 104 => ⟨S295296x1, .f32⟩
  | 105 => ⟨S_, .i32⟩
  | 106 => ⟨S295296, .i32⟩
  | 107 => ⟨S295296, .i1⟩
  | 108 => ⟨S_, .i32⟩
  | 109 => ⟨S295296, .i32⟩
  | 110 => ⟨S295296, .i32⟩
  | 111 => ⟨S295296, .i32⟩
  | 112 => ⟨S295296x1, .i32⟩
  | 113 => ⟨S295296x256, .f32⟩
  | 114 => ⟨S295296x256, .f32⟩
  | 115 => ⟨S295296x256, .f32⟩
  | 116 => ⟨S_, .i32⟩
  | 117 => ⟨S295296, .i32⟩
  | 118 => ⟨S295296, .i1⟩
  | 119 => ⟨S_, .i32⟩
  | 120 => ⟨S295296, .i32⟩
  | 121 => ⟨S295296, .i32⟩
  | 122 => ⟨S295296, .i32⟩
  | 123 => ⟨S295296x1, .i32⟩
  | 124 => ⟨S768x256, .f32⟩
  | 125 => ⟨S1x256, .f32⟩
  | 126 => ⟨S768x256, .f32⟩
  | 127 => ⟨S768x256, .f32⟩
  | _ => ⟨S768x256, .f32⟩

abbrev hbmTy0_3 (i : Nat) : BufTy := match i % 128 with
  | 0 => ⟨S_, .i32⟩
  | 1 => ⟨S768, .i32⟩
  | 2 => ⟨S768, .i1⟩
  | 3 => ⟨S_, .i32⟩
  | 4 => ⟨S768, .i32⟩
  | 5 => ⟨S768, .i32⟩
  | 6 => ⟨S768, .i32⟩
  | 7 => ⟨S768x1, .i32⟩
  | 8 => ⟨S768x256, .f32⟩
  | _ => ⟨S768x256, .f32⟩

abbrev hbmTy (i : Nat) : BufTy := match i / 128 with
  | 0 => hbmTy0_0 i
  | 1 => hbmTy0_1 i
  | 2 => hbmTy0_2 i
  | 3 => hbmTy0_3 i
  | _ => ⟨S768x256, .f32⟩

abbrev bufTy : (tb : Table) → Fin (tcTables nBuf tb) → BufTy
  | .hbm, ⟨i, _⟩ => hbmTy i
  | _, _ => ⟨S768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_call1_v0 : Ref sig .tc := ⟨.hbm, 38, rfl⟩
abbrev main_call1_call0_c : Ref sig .tc := ⟨.hbm, 39, rfl⟩
abbrev main_call1_call0_v0 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_c_5 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_call2_call0_c : Ref sig .tc := ⟨.hbm, 55, rfl⟩
abbrev main_call2_call0_v0 : Ref sig .tc := ⟨.hbm, 56, rfl⟩
abbrev main_v23 : Ref sig .tc := ⟨.hbm, 57, rfl⟩
abbrev main_c_7 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_0 : Ref sig .tc := ⟨.hbm, 72, rfl⟩
abbrev main_call3_v12 : Ref sig .tc := ⟨.hbm, 73, rfl⟩
abbrev main_call3_v13 : Ref sig .tc := ⟨.hbm, 74, rfl⟩
abbrev main_v24 : Ref sig .tc := ⟨.hbm, 75, rfl⟩
abbrev main_c_8 : Ref sig .tc := ⟨.hbm, 76, rfl⟩
abbrev main_call4_v0 : Ref sig .tc := ⟨.hbm, 77, rfl⟩
abbrev main_call4_c : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_c_1 : Ref sig .tc := ⟨.hbm, 84, rfl⟩
abbrev main_call4_v5 : Ref sig .tc := ⟨.hbm, 85, rfl⟩
abbrev main_call4_v6 : Ref sig .tc := ⟨.hbm, 86, rfl⟩
abbrev main_call4_c_2 : Ref sig .tc := ⟨.hbm, 87, rfl⟩
abbrev main_call4_v7 : Ref sig .tc := ⟨.hbm, 88, rfl⟩
abbrev main_call4_v8 : Ref sig .tc := ⟨.hbm, 89, rfl⟩
abbrev main_call4_c_3 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_v12 : Ref sig .tc := ⟨.hbm, 94, rfl⟩
abbrev main_call4_v13 : Ref sig .tc := ⟨.hbm, 95, rfl⟩
abbrev main_call4_v14 : Ref sig .tc := ⟨.hbm, 96, rfl⟩
abbrev main_v25 : Ref sig .tc := ⟨.hbm, 97, rfl⟩
abbrev main_c_9 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_call5_v5 : Ref sig .tc := ⟨.hbm, 104, rfl⟩
abbrev main_call5_v6 : Ref sig .tc := ⟨.hbm, 105, rfl⟩
abbrev main_call5_v7 : Ref sig .tc := ⟨.hbm, 106, rfl⟩
abbrev main_call5_v8 : Ref sig .tc := ⟨.hbm, 107, rfl⟩
abbrev main_call5_c : Ref sig .tc := ⟨.hbm, 108, rfl⟩
abbrev main_call5_v9 : Ref sig .tc := ⟨.hbm, 109, rfl⟩
abbrev main_call5_v10 : Ref sig .tc := ⟨.hbm, 110, rfl⟩
abbrev main_call5_v11 : Ref sig .tc := ⟨.hbm, 111, rfl⟩
abbrev main_call5_c_0 : Ref sig .tc := ⟨.hbm, 112, rfl⟩
abbrev main_call5_v12 : Ref sig .tc := ⟨.hbm, 113, rfl⟩
abbrev main_call5_v13 : Ref sig .tc := ⟨.hbm, 114, rfl⟩
abbrev main_v26 : Ref sig .tc := ⟨.hbm, 115, rfl⟩
abbrev main_c_10 : Ref sig .tc := ⟨.hbm, 116, rfl⟩
abbrev main_call6_v0 : Ref sig .tc := ⟨.hbm, 117, rfl⟩
abbrev main_call6_c : Ref sig .tc := ⟨.hbm, 118, rfl⟩
abbrev main_call6_v1 : Ref sig .tc := ⟨.hbm, 119, rfl⟩
abbrev main_call6_c_0 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_c_1 : Ref sig .tc := ⟨.hbm, 124, rfl⟩
abbrev main_call6_v5 : Ref sig .tc := ⟨.hbm, 125, rfl⟩
abbrev main_call6_v6 : Ref sig .tc := ⟨.hbm, 126, rfl⟩
abbrev main_call6_c_2 : Ref sig .tc := ⟨.hbm, 127, rfl⟩
abbrev main_call6_v7 : Ref sig .tc := ⟨.hbm, 128, rfl⟩
abbrev main_call6_v8 : Ref sig .tc := ⟨.hbm, 129, rfl⟩
abbrev main_call6_c_3 : Ref sig .tc := ⟨.hbm, 130, rfl⟩
abbrev main_call6_v9 : Ref sig .tc := ⟨.hbm, 131, rfl⟩
abbrev main_call6_v10 : Ref sig .tc := ⟨.hbm, 132, rfl⟩
abbrev main_call6_v11 : Ref sig .tc := ⟨.hbm, 133, rfl⟩
abbrev main_call6_v12 : Ref sig .tc := ⟨.hbm, 134, rfl⟩
abbrev main_call6_v13 : Ref sig .tc := ⟨.hbm, 135, rfl⟩
abbrev main_call6_v14 : Ref sig .tc := ⟨.hbm, 136, rfl⟩
abbrev main_v27 : Ref sig .tc := ⟨.hbm, 137, rfl⟩
abbrev main_v28 : Ref sig .tc := ⟨.hbm, 138, rfl⟩
abbrev main_c_11 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_c_12 : Ref sig .tc := ⟨.hbm, 145, rfl⟩
abbrev main_call7_v0 : Ref sig .tc := ⟨.hbm, 146, rfl⟩
abbrev main_call7_v1 : Ref sig .tc := ⟨.hbm, 147, rfl⟩
abbrev main_v34 : Ref sig .tc := ⟨.hbm, 148, rfl⟩
abbrev main_c_13 : Ref sig .tc := ⟨.hbm, 149, rfl⟩
abbrev main_call8_v0 : Ref sig .tc := ⟨.hbm, 150, rfl⟩
abbrev main_call8_v1 : Ref sig .tc := ⟨.hbm, 151, rfl⟩
abbrev main_v35 : Ref sig .tc := ⟨.hbm, 152, rfl⟩
abbrev main_c_14 : Ref sig .tc := ⟨.hbm, 153, rfl⟩
abbrev main_v36 : Ref sig .tc := ⟨.hbm, 154, rfl⟩
abbrev main_v37 : Ref sig .tc := ⟨.hbm, 155, rfl⟩
abbrev main_c_15 : Ref sig .tc := ⟨.hbm, 156, rfl⟩
abbrev main_v38 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_v42 : Ref sig .tc := ⟨.hbm, 161, rfl⟩
abbrev main_c_16 : Ref sig .tc := ⟨.hbm, 162, rfl⟩
abbrev main_v43 : Ref sig .tc := ⟨.hbm, 163, rfl⟩
abbrev main_v44 : Ref sig .tc := ⟨.hbm, 164, rfl⟩
abbrev main_c_17 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_c_18 : Ref sig .tc := ⟨.hbm, 171, rfl⟩
abbrev main_v50 : Ref sig .tc := ⟨.hbm, 172, rfl⟩
abbrev main_v51 : Ref sig .tc := ⟨.hbm, 173, rfl⟩
abbrev main_c_19 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_c_20 : Ref sig .tc := ⟨.hbm, 180, rfl⟩
abbrev main_v57 : Ref sig .tc := ⟨.hbm, 181, rfl⟩
abbrev main_v58 : Ref sig .tc := ⟨.hbm, 182, rfl⟩
abbrev main_c_21 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_call9_cst : Ref sig .tc := ⟨.hbm, 194, rfl⟩
abbrev main_call9_v0 : Ref sig .tc := ⟨.hbm, 195, rfl⟩
abbrev main_v69 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_call10_cst : Ref sig .tc := ⟨.hbm, 201, rfl⟩
abbrev main_call10_v0 : Ref sig .tc := ⟨.hbm, 202, rfl⟩
abbrev main_v74 : Ref sig .tc := ⟨.hbm, 203, rfl⟩
abbrev main_v75 : Ref sig .tc := ⟨.hbm, 204, rfl⟩
abbrev main_v76 : Ref sig .tc := ⟨.hbm, 205, rfl⟩
abbrev main_v77 : Ref sig .tc := ⟨.hbm, 206, rfl⟩
abbrev main_v78 : Ref sig .tc := ⟨.hbm, 207, rfl⟩
abbrev main_v79 : Ref sig .tc := ⟨.hbm, 208, rfl⟩
abbrev main_cst_22 : Ref sig .tc := ⟨.hbm, 209, rfl⟩
abbrev main_v80 : Ref sig .tc := ⟨.hbm, 210, rfl⟩
abbrev main_cst_23 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_v85 : Ref sig .tc := ⟨.hbm, 216, rfl⟩
abbrev main_cst_24 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_v90 : Ref sig .tc := ⟨.hbm, 222, rfl⟩
abbrev main_v91 : Ref sig .tc := ⟨.hbm, 223, rfl⟩
abbrev main_v92 : Ref sig .tc := ⟨.hbm, 224, rfl⟩
abbrev main_v93 : Ref sig .tc := ⟨.hbm, 225, rfl⟩
abbrev main_cst_25 : Ref sig .tc := ⟨.hbm, 226, rfl⟩
abbrev main_v94 : Ref sig .tc := ⟨.hbm, 227, rfl⟩
abbrev main_v95 : Ref sig .tc := ⟨.hbm, 228, rfl⟩
abbrev main_cst_26 : Ref sig .tc := ⟨.hbm, 229, rfl⟩
abbrev main_v96 : Ref sig .tc := ⟨.hbm, 230, rfl⟩
abbrev main_c_27 : Ref sig .tc := ⟨.hbm, 231, rfl⟩
abbrev main_v97 : Ref sig .tc := ⟨.hbm, 232, rfl⟩
abbrev main_v98 : Ref sig .tc := ⟨.hbm, 233, rfl⟩
abbrev main_c_28 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_cst_29 : Ref sig .tc := ⟨.hbm, 240, rfl⟩
abbrev main_v104 : Ref sig .tc := ⟨.hbm, 241, rfl⟩
abbrev main_v105 : Ref sig .tc := ⟨.hbm, 242, rfl⟩
abbrev main_cst_30 : Ref sig .tc := ⟨.hbm, 243, rfl⟩
abbrev main_v106 : Ref sig .tc := ⟨.hbm, 244, rfl⟩
abbrev main_v107 : Ref sig .tc := ⟨.hbm, 245, rfl⟩
abbrev main_cst_31 : Ref sig .tc := ⟨.hbm, 246, rfl⟩
abbrev main_call11_v0 : Ref sig .tc := ⟨.hbm, 247, rfl⟩
abbrev main_call11_v1 : Ref sig .tc := ⟨.hbm, 248, rfl⟩
abbrev main_v108 : Ref sig .tc := ⟨.hbm, 249, rfl⟩
abbrev main_v109 : Ref sig .tc := ⟨.hbm, 250, rfl⟩
abbrev main_cst_32 : Ref sig .tc := ⟨.hbm, 251, rfl⟩
abbrev main_call12_v0 : Ref sig .tc := ⟨.hbm, 252, rfl⟩
abbrev main_call12_v1 : Ref sig .tc := ⟨.hbm, 253, rfl⟩
abbrev main_v110 : Ref sig .tc := ⟨.hbm, 254, rfl⟩
abbrev main_c_33 : Ref sig .tc := ⟨.hbm, 255, rfl⟩
abbrev main_v111 : Ref sig .tc := ⟨.hbm, 256, rfl⟩
abbrev main_v112 : Ref sig .tc := ⟨.hbm, 257, rfl⟩
abbrev main_c_34 : Ref sig .tc := ⟨.hbm, 258, rfl⟩
abbrev main_v113 : Ref sig .tc := ⟨.hbm, 259, rfl⟩
abbrev main_v114 : Ref sig .tc := ⟨.hbm, 260, rfl⟩
abbrev main_v115 : Ref sig .tc := ⟨.hbm, 261, rfl⟩
abbrev main_v116 : Ref sig .tc := ⟨.hbm, 262, rfl⟩
abbrev main_v117 : Ref sig .tc := ⟨.hbm, 263, rfl⟩
abbrev main_v118 : Ref sig .tc := ⟨.hbm, 264, rfl⟩
abbrev main_c_35 : Ref sig .tc := ⟨.hbm, 265, rfl⟩
abbrev main_v119 : Ref sig .tc := ⟨.hbm, 266, rfl⟩
abbrev main_v120 : Ref sig .tc := ⟨.hbm, 267, rfl⟩
abbrev main_c_36 : Ref sig .tc := ⟨.hbm, 268, rfl⟩
abbrev main_v121 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_v126 : Ref sig .tc := ⟨.hbm, 274, rfl⟩
abbrev main_v127 : Ref sig .tc := ⟨.hbm, 275, rfl⟩
abbrev main_cst_37 : Ref sig .tc := ⟨.hbm, 276, rfl⟩
abbrev main_v128 : Ref sig .tc := ⟨.hbm, 277, rfl⟩
abbrev main_v129 : Ref sig .tc := ⟨.hbm, 278, rfl⟩
abbrev main_c_38 : Ref sig .tc := ⟨.hbm, 279, rfl⟩
abbrev main_v130 : Ref sig .tc := ⟨.hbm, 280, rfl⟩
abbrev main_v131 : Ref sig .tc := ⟨.hbm, 281, rfl⟩
abbrev main_c_39 : Ref sig .tc := ⟨.hbm, 282, rfl⟩
abbrev main_v132 : Ref sig .tc := ⟨.hbm, 283, rfl⟩
abbrev main_v133 : Ref sig .tc := ⟨.hbm, 284, rfl⟩
abbrev main_v134 : Ref sig .tc := ⟨.hbm, 285, rfl⟩
abbrev main_v135 : Ref sig .tc := ⟨.hbm, 286, rfl⟩
abbrev main_v136 : Ref sig .tc := ⟨.hbm, 287, rfl⟩
abbrev main_v137 : Ref sig .tc := ⟨.hbm, 288, rfl⟩
abbrev main_v138 : Ref sig .tc := ⟨.hbm, 289, rfl⟩
abbrev main_c_40 : Ref sig .tc := ⟨.hbm, 290, rfl⟩
abbrev main_v139 : Ref sig .tc := ⟨.hbm, 291, rfl⟩
abbrev main_v140 : Ref sig .tc := ⟨.hbm, 292, rfl⟩
abbrev main_c_41 : Ref sig .tc := ⟨.hbm, 293, rfl⟩
abbrev main_v141 : Ref sig .tc := ⟨.hbm, 294, rfl⟩
abbrev main_v142 : Ref sig .tc := ⟨.hbm, 295, rfl⟩
abbrev main_v143 : Ref sig .tc := ⟨.hbm, 296, rfl⟩
abbrev main_v144 : Ref sig .tc := ⟨.hbm, 297, rfl⟩
abbrev main_v145 : Ref sig .tc := ⟨.hbm, 298, rfl⟩
abbrev main_v146 : Ref sig .tc := ⟨.hbm, 299, rfl⟩
abbrev main_v147 : Ref sig .tc := ⟨.hbm, 300, rfl⟩
abbrev main_v148 : Ref sig .tc := ⟨.hbm, 301, rfl⟩
abbrev main_call13_cst : Ref sig .tc := ⟨.hbm, 302, rfl⟩
abbrev main_call13_v0 : Ref sig .tc := ⟨.hbm, 303, rfl⟩
abbrev main_v149 : Ref sig .tc := ⟨.hbm, 304, rfl⟩
abbrev main_v150 : Ref sig .tc := ⟨.hbm, 305, rfl⟩
abbrev main_v151 : Ref sig .tc := ⟨.hbm, 306, rfl⟩
abbrev main_v152 : Ref sig .tc := ⟨.hbm, 307, rfl⟩
abbrev main_cst_42 : Ref sig .tc := ⟨.hbm, 308, rfl⟩
abbrev main_v153 : Ref sig .tc := ⟨.hbm, 309, rfl⟩
abbrev main_v154 : Ref sig .tc := ⟨.hbm, 310, rfl⟩
abbrev main_cst_43 : Ref sig .tc := ⟨.hbm, 311, rfl⟩
abbrev main_v155 : Ref sig .tc := ⟨.hbm, 312, rfl⟩
abbrev main_c_44 : Ref sig .tc := ⟨.hbm, 313, rfl⟩
abbrev main_v156 : Ref sig .tc := ⟨.hbm, 314, rfl⟩
abbrev main_v157 : Ref sig .tc := ⟨.hbm, 315, rfl⟩
abbrev main_c_45 : Ref sig .tc := ⟨.hbm, 316, rfl⟩
abbrev main_v158 : Ref sig .tc := ⟨.hbm, 317, rfl⟩
abbrev main_v159 : Ref sig .tc := ⟨.hbm, 318, rfl⟩
abbrev main_v160 : Ref sig .tc := ⟨.hbm, 319, rfl⟩
abbrev main_v161 : Ref sig .tc := ⟨.hbm, 320, rfl⟩
abbrev main_v162 : Ref sig .tc := ⟨.hbm, 321, rfl⟩
abbrev main_cst_46 : Ref sig .tc := ⟨.hbm, 322, rfl⟩
abbrev main_v163 : Ref sig .tc := ⟨.hbm, 323, rfl⟩
abbrev main_v164 : Ref sig .tc := ⟨.hbm, 324, rfl⟩
abbrev main_cst_47 : Ref sig .tc := ⟨.hbm, 325, rfl⟩
abbrev main_v165 : Ref sig .tc := ⟨.hbm, 326, rfl⟩
abbrev main_v166 : Ref sig .tc := ⟨.hbm, 327, rfl⟩
abbrev main_cst_48 : Ref sig .tc := ⟨.hbm, 328, rfl⟩
abbrev main_call14_v0 : Ref sig .tc := ⟨.hbm, 329, rfl⟩
abbrev main_call14_v1 : Ref sig .tc := ⟨.hbm, 330, rfl⟩
abbrev main_v167 : Ref sig .tc := ⟨.hbm, 331, rfl⟩
abbrev main_v168 : Ref sig .tc := ⟨.hbm, 332, rfl⟩
abbrev main_cst_49 : Ref sig .tc := ⟨.hbm, 333, rfl⟩
abbrev main_call15_v0 : Ref sig .tc := ⟨.hbm, 334, rfl⟩
abbrev main_call15_v1 : Ref sig .tc := ⟨.hbm, 335, rfl⟩
abbrev main_v169 : Ref sig .tc := ⟨.hbm, 336, rfl⟩
abbrev main_c_50 : Ref sig .tc := ⟨.hbm, 337, rfl⟩
abbrev main_v170 : Ref sig .tc := ⟨.hbm, 338, rfl⟩
abbrev main_v171 : Ref sig .tc := ⟨.hbm, 339, rfl⟩
abbrev main_c_51 : Ref sig .tc := ⟨.hbm, 340, rfl⟩
abbrev main_v172 : Ref sig .tc := ⟨.hbm, 341, rfl⟩
abbrev main_v173 : Ref sig .tc := ⟨.hbm, 342, rfl⟩
abbrev main_v174 : Ref sig .tc := ⟨.hbm, 343, rfl⟩
abbrev main_v175 : Ref sig .tc := ⟨.hbm, 344, rfl⟩
abbrev main_v176 : Ref sig .tc := ⟨.hbm, 345, rfl⟩
abbrev main_v177 : Ref sig .tc := ⟨.hbm, 346, rfl⟩
abbrev main_c_52 : Ref sig .tc := ⟨.hbm, 347, rfl⟩
abbrev main_v178 : Ref sig .tc := ⟨.hbm, 348, rfl⟩
abbrev main_v179 : Ref sig .tc := ⟨.hbm, 349, rfl⟩
abbrev main_c_53 : Ref sig .tc := ⟨.hbm, 350, rfl⟩
abbrev main_v180 : Ref sig .tc := ⟨.hbm, 351, rfl⟩
abbrev main_v181 : Ref sig .tc := ⟨.hbm, 352, rfl⟩
abbrev main_v182 : Ref sig .tc := ⟨.hbm, 353, rfl⟩
abbrev main_v183 : Ref sig .tc := ⟨.hbm, 354, rfl⟩
abbrev main_v184 : Ref sig .tc := ⟨.hbm, 355, rfl⟩
abbrev main_v185 : Ref sig .tc := ⟨.hbm, 356, rfl⟩
abbrev main_v186 : Ref sig .tc := ⟨.hbm, 357, rfl⟩
abbrev main_cst_54 : Ref sig .tc := ⟨.hbm, 358, rfl⟩
abbrev main_v187 : Ref sig .tc := ⟨.hbm, 359, rfl⟩
abbrev main_v188 : Ref sig .tc := ⟨.hbm, 360, rfl⟩
abbrev main_c_55 : Ref sig .tc := ⟨.hbm, 361, rfl⟩
abbrev main_v189 : Ref sig .tc := ⟨.hbm, 362, rfl⟩
abbrev main_v190 : Ref sig .tc := ⟨.hbm, 363, rfl⟩
abbrev main_c_56 : Ref sig .tc := ⟨.hbm, 364, rfl⟩
abbrev main_v191 : Ref sig .tc := ⟨.hbm, 365, rfl⟩
abbrev main_v192 : Ref sig .tc := ⟨.hbm, 366, rfl⟩
abbrev main_v193 : Ref sig .tc := ⟨.hbm, 367, rfl⟩
abbrev main_v194 : Ref sig .tc := ⟨.hbm, 368, rfl⟩
abbrev main_v195 : Ref sig .tc := ⟨.hbm, 369, rfl⟩
abbrev main_v196 : Ref sig .tc := ⟨.hbm, 370, rfl⟩
abbrev main_v197 : Ref sig .tc := ⟨.hbm, 371, rfl⟩
abbrev main_c_57 : Ref sig .tc := ⟨.hbm, 372, rfl⟩
abbrev main_v198 : Ref sig .tc := ⟨.hbm, 373, rfl⟩
abbrev main_v199 : Ref sig .tc := ⟨.hbm, 374, rfl⟩
abbrev main_c_58 : Ref sig .tc := ⟨.hbm, 375, rfl⟩
abbrev main_v200 : Ref sig .tc := ⟨.hbm, 376, rfl⟩
abbrev main_v201 : Ref sig .tc := ⟨.hbm, 377, rfl⟩
abbrev main_v202 : Ref sig .tc := ⟨.hbm, 378, rfl⟩
abbrev main_v203 : Ref sig .tc := ⟨.hbm, 379, rfl⟩
abbrev main_v204 : Ref sig .tc := ⟨.hbm, 380, rfl⟩
abbrev main_v205 : Ref sig .tc := ⟨.hbm, 381, rfl⟩
abbrev main_v206 : Ref sig .tc := ⟨.hbm, 382, rfl⟩
abbrev main_v207 : Ref sig .tc := ⟨.hbm, 383, rfl⟩
abbrev main_c_59 : Ref sig .tc := ⟨.hbm, 384, rfl⟩
abbrev main_v208 : Ref sig .tc := ⟨.hbm, 385, rfl⟩
abbrev main_v209 : Ref sig .tc := ⟨.hbm, 386, rfl⟩
abbrev main_c_60 : Ref sig .tc := ⟨.hbm, 387, rfl⟩
abbrev main_v210 : Ref sig .tc := ⟨.hbm, 388, rfl⟩
abbrev main_v211 : Ref sig .tc := ⟨.hbm, 389, rfl⟩
abbrev main_v212 : Ref sig .tc := ⟨.hbm, 390, rfl⟩
abbrev main_v213 : Ref sig .tc := ⟨.hbm, 391, rfl⟩
abbrev main_v214 : Ref sig .tc := ⟨.hbm, 392, rfl⟩

abbrev nD : Nat := 1
abbrev τ : Topo := Topo.v7x

variable {F : FTy → Type} [FloatOps F]
-- ==== Proof.Network.lean ====
/- What both programs compute: two graph convolutions over the graph in which every node hears every earlier node and itself. -/
module

public import Idealize.ShloMosaic.PureOps.Ideal

@[expose] public section

noncomputable section

namespace Cert.Gcn

open Idealize.ShloMosaic

/-- The inverse root of the degree of the node visited at step `j`, which is `j + 1`. -/
def root (j : Fin 768) : EReal := Ideal.rsqrt (((j.val : ℝ) + 1 : ℝ) : EReal)

/-- A dense layer: row `i` of `x` times column `f` of `w`. -/
def dense (x : Fin 768 → Fin 256 → EReal) (w : Fin 256 → Fin 256 → EReal) (i : Fin 768) (f : Fin 256) : EReal := ∑ k : Fin 256, x i k * w k f

/-- The sum over the nodes visited no later than step `j`, each scaled by the two nodes' inverse roots. -/
def gathered (h : Fin 768 → Fin 256 → EReal) (j : Fin 768) (f : Fin 256) : EReal :=
  ∑ i : Fin 768, if i.val ≤ j.val then root i * root j * h i f else 0

/-- One graph convolution: the dense layer, gathered over the graph, and the bias. -/
def convolved (x : Fin 768 → Fin 256 → EReal) (w : Fin 256 → Fin 256 → EReal) (b : Fin 256 → EReal) (j : Fin 768) (f : Fin 256) : EReal :=
  gathered (dense x w) j f + b f

/-- Two graph convolutions, the first one's negative entries set to zero. -/
def network (x : Fin 768 → Fin 256 → EReal) (w₁ : Fin 256 → Fin 256 → EReal) (b₁ : Fin 256 → EReal) (w₂ : Fin 256 → Fin 256 → EReal)
    (b₂ : Fin 256 → EReal) : Fin 768 → Fin 256 → EReal :=
  convolved (fun i f => max (convolved x w₁ b₁ i f) 0) w₂ b₂

end Cert.Gcn

end
-- ==== Proof.KernelBlock.lean ====
/- What the kernel computes from the arrays it loads: the network, entry by entry, in exact arithmetic. -/
module

public import proofs.«01_k».proof.Proof.Gen.KernelIdeal.Skeleton
public import proofs.«01_k».proof.Proof.Network
public import Idealize.ShloMosaic.Lib.MatmulPlain
public import Idealize.ShloMosaic.Lib.ValueLayout
public import Idealize.ShloMosaic.Lib.WordArith
public import Idealize.ShloMosaic.Lib.WordCmp
public import Idealize.ShloMosaic.Lib.IdealHost
public import Idealize.ShloMosaic.Lib.Pipeline.Value

@[expose] public section

noncomputable section

namespace Cert.Gcn

open Idealize.ShloMosaic
open Idealize.ShloMosaic.ValueIdx
open Cert.KernelIdeal Cert.KernelIdeal.Gen

/-- The rows' or the columns' inverse roots, spread over the square: along axis `d`, one over the root of the position plus one. -/
def rootsAlong (d : Fin S768x768.rank) (h : S768x768.Iotas .tc 32 [d]) : FVec Ideal S768x768 .f32 :=
  rsqrt (addf (sitofp .f32 (iota .tc S768x768 32 [d] h)) (broadcast S768x768 (Scalar.ofBits .f32 0x3F800000#32)))

/-- The square matrix the kernel gathers with. -/
def adjacency : FVec Ideal S768x768 .f32 :=
  select (cmpi .sle (iota .tc S768x768 32 [1] iota_S768x768_d1_w32) (iota .tc S768x768 32 [0] iota_S768x768_d0_w32))
    (mulf (rootsAlong 0 iota_S768x768_d0_w32) (rootsAlong 1 iota_S768x768_d1_w32)) (broadcast S768x768 (Scalar.ofBits .f32 0x00000000#32))

/-- One of the kernel's graph convolutions: the dense product, the product with the square matrix, the bias row. -/
def kernelLayer (x : FVec Ideal S768x256 .f32) (w : FVec Ideal S256x256 .f32) (b : FVec Ideal S1x256 .f32) : FVec Ideal S768x256 .f32 :=
  addf
    (matmul dot_S768x768_S768x256_S768x256_1_0_0_1_n_n none (truncf .bf16 adjacency bitsLt_bf16_f32)
      (truncf .bf16 (matmul dot_S768x256_S256x256_S768x256_1_0_0_1_n_n none (truncf .bf16 x bitsLt_bf16_f32) (truncf .bf16 w bitsLt_bf16_f32)
        (constant S768x256 .f32 0x00000000#32)) bitsLt_bf16_f32)
      (constant S768x256 .f32 0x00000000#32))
    (broadcastTo S768x256 (shapeCast S1x256 b shapeCasts_S1x256_S1x256) broadcasts_S1x256_S768x256)

/-- The stored array is two of these layers, the first one's negative entries set to zero. -/
theorem stored_eq (x : FVec Ideal S768x256 .f32) (w₁ : FVec Ideal S256x256 .f32) (b₁ : FVec Ideal S1x256 .f32) (w₂ : FVec Ideal S256x256 .f32)
    (b₂ : FVec Ideal S1x256 .f32) :
    k0_pay1 (F := Ideal) x w₁ b₁ w₂ b₂
      = kernelLayer (maximumf (kernelLayer x w₁ b₁) (broadcast S768x256 (Scalar.ofBits .f32 0x00000000#32))) w₂ b₂ := rfl

/-- A position's inverse root, from the word holding the position. -/
theorem root_of_word (j : Fin 768) :
    Ideal.rsqrt ((((BitVec.ofNat 32 j.val).toInt : ℝ) : EReal) + Ideal.ofBits .f32 0x3F800000#32) = root j := by
  have hj := j.isLt
  rw [Ideal.ofBits_one_f32, WordArith.toInt_ofNat_small j.val (by omega)]
  unfold root
  congr 1

/-- The inverse roots along an axis, at an entry. -/
theorem rootsAlong_at (d : Fin S768x768.rank) (h : S768x768.Iotas .tc 32 [d]) (p : S768x768.Idx) (j : Fin 768) (hj : (p d).val = j.val) :
    rootsAlong d h p = root j := by
  have e := iota_single_apply .tc S768x768 32 d h p
  rw [hj] at e
  rw [← root_of_word j, ← e]
  rfl

/-- The square matrix at row `j`, column `i`: the two inverse roots' product on and below the diagonal, zero above it. -/
theorem adjacency_at (j i : Fin 768) : adjacency (ix2 j i) = if i.val ≤ j.val then root i * root j else 0 := by
  have hi := i.isLt
  have hj := j.isLt
  have r0 := rootsAlong_at 0 iota_S768x768_d0_w32 (ix2 j i) j rfl
  have r1 := rootsAlong_at 1 iota_S768x768_d1_w32 (ix2 j i) i rfl
  have e0 : iota .tc S768x768 32 [0] iota_S768x768_d0_w32 (ix2 j i) = BitVec.ofNat 32 j.val := iota_single_apply .tc S768x768 32 0 _ _
  have e1 : iota .tc S768x768 32 [1] iota_S768x768_d1_w32 (ix2 j i) = BitVec.ofNat 32 i.val := iota_single_apply .tc S768x768 32 1 _ _
  show Scalar.select (IntOp.cmpi .sle (iota .tc S768x768 32 [1] iota_S768x768_d1_w32 (ix2 j i)) (iota .tc S768x768 32 [0] iota_S768x768_d0_w32 (ix2 j i)))
    ((rootsAlong 0 iota_S768x768_d0_w32 (ix2 j i) : EReal) * rootsAlong 1 iota_S768x768_d1_w32 (ix2 j i)) (Ideal.ofBits .f32 0x00000000#32) = _
  rw [e0, e1, WordCmp.cmpi_sle_ofNat (by omega) (by omega), WordCmp.select_decide, r0, r1, Ideal.ofBits_zero_f32, mul_comm (root j)]

/-- The kernel's dense product, at an entry. -/
theorem product_at (x : FVec Ideal S768x256 .f32) (w : FVec Ideal S256x256 .f32) (i : Fin 768) (f : Fin 256) :
    matmul dot_S768x256_S256x256_S768x256_1_0_0_1_n_n none (truncf .bf16 x bitsLt_bf16_f32) (truncf .bf16 w bitsLt_bf16_f32)
        (constant S768x256 .f32 0x00000000#32) (ix2 i f)
      = dense (fun i k => x (ix2 i k)) (fun k g => w (ix2 k g)) i f := by
  refine (Ideal.matmul_plain_apply (M := 768) (K := 256) (N := 256) none (truncf .bf16 x bitsLt_bf16_f32) (truncf .bf16 w bitsLt_bf16_f32)
    (constant S768x256 .f32 0x00000000#32) i f).trans ?_
  refine (congrArg (· + _) Ideal.ofBits_zero_f32).trans ?_
  rw [zero_add]
  rfl

/-- The kernel's product with the square matrix, at an entry. -/
theorem gathered_at (h : FVec Ideal S768x256 .f32) (j : Fin 768) (f : Fin 256) :
    matmul dot_S768x768_S768x256_S768x256_1_0_0_1_n_n none (truncf .bf16 adjacency bitsLt_bf16_f32) (truncf .bf16 h bitsLt_bf16_f32)
        (constant S768x256 .f32 0x00000000#32) (ix2 j f)
      = gathered (fun i f => h (ix2 i f)) j f := by
  refine (Ideal.matmul_plain_apply (M := 768) (K := 768) (N := 256) none (truncf .bf16 adjacency bitsLt_bf16_f32) (truncf .bf16 h bitsLt_bf16_f32)
    (constant S768x256 .f32 0x00000000#32) j f).trans ?_
  refine (congrArg (· + _) Ideal.ofBits_zero_f32).trans ?_
  rw [zero_add]
  refine Finset.sum_congr rfl fun i _ => ?_
  show (adjacency (ix2 j i) : EReal) * h (ix2 i f) = _
  rw [adjacency_at, ite_mul, zero_mul]

/-- One of the kernel's layers is one graph convolution. -/
theorem kernelLayer_at (x : FVec Ideal S768x256 .f32) (w : FVec Ideal S256x256 .f32) (b : FVec Ideal S1x256 .f32) (j : Fin 768) (f : Fin 256) :
    kernelLayer x w b (ix2 j f) = convolved (fun i k => x (ix2 i k)) (fun k g => w (ix2 k g)) (fun g => b (ix2 0 g)) j f := by
  have hb : broadcastTo S768x256 (shapeCast S1x256 b shapeCasts_S1x256_S1x256) broadcasts_S1x256_S768x256 (ix2 j f) = b (ix2 0 f) := by
    rw [shapeCast_self]
    exact broadcastTo_1b_ab_apply b broadcasts_S1x256_S768x256 j f
  have hg := gathered_at (matmul dot_S768x256_S256x256_S768x256_1_0_0_1_n_n none (truncf .bf16 x bitsLt_bf16_f32)
    (truncf .bf16 w bitsLt_bf16_f32) (constant S768x256 .f32 0x00000000#32)) j f
  have hd := funext fun i => funext fun f => product_at x w i f
  rw [hd] at hg
  exact congrArg₂ (fun a b : EReal => a + b) hg hb

/-- What the kernel stores, at an entry: the network of the arrays loaded. -/
theorem stored_at (x : FVec Ideal S768x256 .f32) (w₁ : FVec Ideal S256x256 .f32) (b₁ : FVec Ideal S1x256 .f32) (w₂ : FVec Ideal S256x256 .f32)
    (b₂ : FVec Ideal S1x256 .f32) (j : Fin 768) (f : Fin 256) :
    k0_pay1 (F := Ideal) x w₁ b₁ w₂ b₂ (ix2 j f)
      = network (fun i k => x (ix2 i k)) (fun k g => w₁ (ix2 k g)) (fun g => b₁ (ix2 0 g)) (fun k g => w₂ (ix2 k g)) (fun g => b₂ (ix2 0 g)) j f := by
  have hr : (fun (i : Fin 768) (k : Fin 256) =>
        maximumf (kernelLayer x w₁ b₁) (broadcast S768x256 (Scalar.ofBits .f32 0x00000000#32)) (ix2 i k))
      = fun i k => max (convolved (fun i k => x (ix2 i k)) (fun k g => w₁ (ix2 k g)) (fun g => b₁ (ix2 0 g)) i k) 0 :=
    funext fun i => funext fun k =>
      congrArg₂ (fun a b : EReal => max a b) (kernelLayer_at x w₁ b₁ i k) Ideal.ofBits_zero_f32
  rw [stored_eq, kernelLayer_at, hr]
  rfl

end Cert.Gcn

end
-- ==== Proof.KernelArray.lean ====
/- What the kernel's result array holds after the run: the network of the argument arrays. -/
module

public import proofs.«01_k».proof.Proof.Gen.KernelIdeal.Value
public import proofs.«01_k».proof.Proof.KernelBlock
public import Idealize.ShloMosaic.Lib.Pipeline.Value
public import Idealize.ShloMosaic.Lib.StableHlo.Run

@[expose] public section

noncomputable section

namespace Cert.Gcn

open Idealize.ShloMosaic Idealize.ShloMosaic.TcCoe Idealize.SL.Sem
open Idealize.ShloMosaic.ValueIdx
open Cert.KernelIdeal Cert.KernelIdeal.Gen
open Idealize.ShloMosaic.Pipeline (Dat)

variable (m : (ℓ : Loc nD τ sig) → Buf (Elt Ideal) ℓ) (c : Dev nD)

/-- Both loads and stores start at the arrays' first entry. -/
theorem starts_zero : (![0, 0] : Fin 2 → Nat) = fun _ => 0 := funext fun a => by fin_cases a <;> rfl

/-- The body leaves in the output's buffer what it computes from the whole input blocks. -/
theorem left_eq (x : FVec Ideal S768x256 .f32) (w₁ : FVec Ideal S256x256 .f32) (b₁ : FVec Ideal S1x256 .f32) (w₂ : FVec Ideal S256x256 .f32)
    (b₂ : FVec Ideal S1x256 .f32) : out0_5 (F := Ideal) x w₁ b₁ w₂ b₂ = k0_pay1 (F := Ideal) x w₁ b₁ w₂ b₂ := by
  unfold out0_5
  rw [View.canon_unit_zero starts_zero]
  simp only [View.ld_unit_zero (S := S768x256) starts_zero, View.ld_unit_zero (S := S256x256) starts_zero,
    View.ld_unit_zero (S := S1x256) starts_zero]

/-- Each input window's one block is its whole array as the kernel finds it. -/
theorem block0 : (iblk m c 0 t0_0 : FVec Ideal S768x256 .f32) = V m c main_arg0 :=
  Memref.read_access_unit_zero (Elt Ideal) main_arg0 (off := fun a => win0_0.index t0_0 a * main_arg0.ty.shape.size a)
    (funext fun a => by fin_cases a <;> decide) (by intro a; fin_cases a <;> decide) (V m c main_arg0)
theorem block1 : (iblk m c 1 t0_0 : FVec Ideal S256x256 .f32) = V m c main_arg8 :=
  Memref.read_access_unit_zero (Elt Ideal) main_arg8 (off := fun a => win0_1.index t0_0 a * main_arg8.ty.shape.size a)
    (funext fun a => by fin_cases a <;> decide) (by intro a; fin_cases a <;> decide) (V m c main_arg8)
theorem block2 : (iblk m c 2 t0_0 : FVec Ideal S1x256 .f32) = V m c main_v0 :=
  Memref.read_access_unit_zero (Elt Ideal) main_v0 (off := fun a => win0_2.index t0_0 a * main_v0.ty.shape.size a)
    (funext fun a => by fin_cases a <;> decide) (by intro a; fin_cases a <;> decide) (V m c main_v0)
theorem block3 : (iblk m c 3 t0_0 : FVec Ideal S256x256 .f32) = V m c main_arg10 :=
  Memref.read_access_unit_zero (Elt Ideal) main_arg10 (off := fun a => win0_3.index t0_0 a * main_arg10.ty.shape.size a)
    (funext fun a => by fin_cases a <;> decide) (by intro a; fin_cases a <;> decide) (V m c main_arg10)
theorem block4 : (iblk m c 4 t0_0 : FVec Ideal S1x256 .f32) = V m c main_v1 :=
  Memref.read_access_unit_zero (Elt Ideal) main_v1 (off := fun a => win0_4.index t0_0 a * main_v1.ty.shape.size a)
    (funext fun a => by fin_cases a <;> decide) (by intro a; fin_cases a <;> decide) (V m c main_v1)

/-- The first bias as the kernel finds it: the argument as one row. -/
theorem bias1 : (V m c main_v0 : FVec Ideal S1x256 .f32)
    = shapeCast S1x256 (m ((c : Thread nD τ).loc main_arg9) : FVec Ideal S256 .f32) shapeCasts_S256_S1x256 := by
  unfold V
  simp only [hostOps0, StableHlo.after, List.foldl_cons, List.foldl_nil]
  rfl

/-- The second bias as the kernel finds it: the argument as one row. -/
theorem bias2 : (V m c main_v1 : FVec Ideal S1x256 .f32)
    = shapeCast S1x256 (m ((c : Thread nD τ).loc main_arg11) : FVec Ideal S256 .f32) shapeCasts_S256_S1x256 := by
  unfold V
  simp only [hostOps0, StableHlo.after, List.foldl_cons, List.foldl_nil]
  rfl

/-- The result array: what the body computes from the arguments, the biases as rows. -/
def kernelResult : FVec Ideal S768x256 .f32 :=
  k0_pay1 (F := Ideal) (m ((c : Thread nD τ).loc main_arg0)) (m ((c : Thread nD τ).loc main_arg8))
    (shapeCast S1x256 (m ((c : Thread nD τ).loc main_arg9) : FVec Ideal S256 .f32) shapeCasts_S256_S1x256)
    (m ((c : Thread nD τ).loc main_arg10))
    (shapeCast S1x256 (m ((c : Thread nD τ).loc main_arg11) : FVec Ideal S256 .f32) shapeCasts_S256_S1x256)

/-- What the one point writes back is the result array. -/
theorem written_back (t : Fin cfg0.N) :
    (dats m 0 c).flushed 5 t = ((cfg0.win 5).blk t).view.read (Elt Ideal) (kernelResult m c : Buf (Elt Ideal) ((c : Thread nD τ).loc main_v2)) := by
  obtain rfl := fin_N0 t
  rw [Value.flushed5]
  have e : out0_5 (F := Ideal) (iblk m c 0 t0_0) (iblk m c 1 t0_0) (iblk m c 2 t0_0) (iblk m c 3 t0_0) (iblk m c 4 t0_0) = kernelResult m c := by
    rw [left_eq, block0, block1, block2, block3, block4, bias1, bias2, V_main_arg0, V_main_arg8, V_main_arg10]
    rfl
  rw [e]
  exact (Memref.read_access_unit_zero (Elt Ideal) main_v2 (off := fun a => win0_5.index t0_0 a * main_v2.ty.shape.size a)
    (funext fun a => by fin_cases a <;> decide) (by intro a; fin_cases a <;> decide) (kernelResult m c)).symm

/-- After the run the kernel's result array holds it. -/
theorem array_eq : (dats m 0 c).arrAt 5 cfg0.N = (kernelResult m c : Buf (Elt Ideal) ((c : Thread nD τ).loc main_v2)) :=
  (dats m 0 c).arrAt_eq_of_cover 5 (kernelResult m c) (fun t _ => written_back m c t) fun i =>
    ⟨t0_0, flush0_5 t0_0, by
      show i ∈ ((View.whole main_v2).slice (win0_5.rect t0_0)).set
      rw [View.set_slice_whole]
      exact View.mem_set_unit_zero (S := S768x256) (off := fun a => win0_5.index t0_0 a * main_v2.ty.shape.size a)
        (funext fun a => by fin_cases a <;> decide) (by intro a; fin_cases a <;> decide) i⟩

/-- The kernel's result, at an entry: the network of the arguments. -/
theorem kernel_at (j : Fin 768) (f : Fin 256) :
    kernelResult m c (ix2 j f)
      = network (fun i k => (m ((c : Thread nD τ).loc main_arg0) : FVec Ideal S768x256 .f32) (ix2 i k))
          (fun k g => (m ((c : Thread nD τ).loc main_arg8) : FVec Ideal S256x256 .f32) (ix2 k g))
          (fun g => (m ((c : Thread nD τ).loc main_arg9) : FVec Ideal S256 .f32) (ix1 g))
          (fun k g => (m ((c : Thread nD τ).loc main_arg10) : FVec Ideal S256x256 .f32) (ix2 k g))
          (fun g => (m ((c : Thread nD τ).loc main_arg11) : FVec Ideal S256 .f32) (ix1 g)) j f := by
  have row (b : FVec Ideal S256 .f32) : (fun g : Fin 256 => shapeCast S1x256 b shapeCasts_S256_S1x256 (ix2 0 g)) = fun g => b (ix1 g) :=
    funext fun g => (shapeCast_addUnit_apply ![256] b shapeCasts_S256_S1x256 (ix2 0 g)).trans
      (congrArg b (funext fun a => by fin_cases a; rfl))
  unfold kernelResult
  rw [stored_at, row, row]

end Cert.Gcn

end
-- ==== Proof.Pairs.lean ====
/- The enumeration of the pairs `i < j` of `n` nodes by counting: the pair that position `k` of the list stands for is found from
   the running count of the upper triangle's mask. Sums over the list are sums over the pairs. -/
module

public import Idealize.ShloMosaic.Lib.Routing.Count
public import Mathlib.Algebra.BigOperators.Fin
public import Mathlib.Algebra.BigOperators.Intervals
public import Mathlib.Logic.Equiv.Fin.Basic
public import Mathlib.Order.Interval.Finset.Fin

@[expose] public section

noncomputable section

namespace Cert.Gcn

open Idealize.ShloMosaic.Routing

/-- Position `p` of the flattened `[n, n]` square lies above the diagonal. -/
abbrev Above (n p : Nat) : Prop := p / n < p % n

/-- The position, in the flattened square, of the `k`-th entry above the diagonal: how many positions are reached by at most `k`
    entries. -/
abbrev place (n k : Nat) : Nat := Nat.count (fun p => Nat.count (Above n) (p + 1) ≤ k) (n * n)

/-- A sum over the positions of the flattened square is a sum over its rows and columns. -/
theorem sum_square {M : Type*} [AddCommMonoid M] (n : Nat) (g : Nat → Nat → M) :
    ∑ p : Fin (n * n), g (p.val / n) (p.val % n) = ∑ i : Fin n, ∑ j : Fin n, g i.val j.val := by
  rw [← Fintype.sum_prod_type' (f := fun i j : Fin n => g i.val j.val), ← Equiv.sum_comp (finProdFinEquiv (m := n) (n := n)).symm]
  rfl

/-- The number of entries above the diagonal, as a sum over the rows. -/
theorem count_above (n : Nat) : Nat.count (Above n) (n * n) = ∑ i ∈ Finset.range n, (n - 1 - i) := by
  rw [← card_filter_fin, Finset.card_filter, sum_square n fun i j => if i < j then 1 else 0, ← Fin.sum_univ_eq_sum_range (fun i => n - 1 - i) n]
  refine Finset.sum_congr rfl fun i _ => ?_
  rw [← Finset.card_filter, ← Fin.card_Ioi]
  refine congrArg Finset.card (Finset.ext fun j => ?_)
  rw [Finset.mem_filter, Finset.mem_Ioi, Fin.lt_def]
  exact ⟨fun h => h.2, fun h => ⟨Finset.mem_univ _, h⟩⟩

/-- 768 nodes have 294528 pairs. -/
theorem count_above_768 : Nat.count (Above 768) (768 * 768) = 294528 := by
  rw [count_above, Finset.sum_range_reflect (fun i => i) 768]
  have h := Finset.sum_range_id_mul_two 768
  omega

/-- A sum over the entries of a list, read by position, is the sum of the list. -/
theorem sum_getD {M : Type*} [AddCommMonoid M] (g : Nat → M) :
    ∀ l : List Nat, ∑ k : Fin l.length, g (l.getD k.val 0) = (l.map g).sum
  | [] => rfl
  | a :: l => by
    rw [List.map_cons, List.sum_cons, ← sum_getD g l]
    exact Fin.sum_univ_succ (n := l.length) fun k => g ((a :: l).getD k.val 0)

/-- The sum of the numbers below `C` with a property, as a sum over all of them. -/
theorem sum_filter_range {M : Type*} [AddCommMonoid M] (P : Nat → Prop) [DecidablePred P] (g : Nat → M) (C : Nat) :
    (((List.range C).filter fun c => decide (P c)).map g).sum = ∑ p : Fin C, if P p.val then g p.val else 0 := by
  rw [Fin.sum_univ_eq_sum_range (fun p => if P p then g p else 0) C]
  induction C with
  | zero => rfl
  | succ C ih =>
    rw [List.range_succ, List.filter_append, List.map_append, List.sum_append, ih, Finset.sum_range_succ]
    by_cases h : P C <;> simp [h]

/-- The `k`-th place is below the square's size. -/
theorem place_lt (n k : Nat) (hk : k < Nat.count (Above n) (n * n)) : place n k < n * n :=
  count_nonzero_lt (Above n) (n * n) k hk

/-- **A sum over the list of pairs is the sum over the pairs `i < j`.** -/
theorem sum_places {M : Type*} [AddCommMonoid M] (n K : Nat) (hK : Nat.count (Above n) (n * n) = K) (g : Nat → Nat → M) :
    ∑ k : Fin K, g (place n k.val / n) (place n k.val % n) = ∑ i : Fin n, ∑ j : Fin n, if i.val < j.val then g i.val j.val else 0 := by
  have hl := length_filter_range (Above n) (n * n)
  rw [hK] at hl
  subst hl
  rw [← sum_square n fun i j => if i < j then g i j else 0, ← sum_filter_range (Above n) (fun p => g (p / n) (p % n)) (n * n), ← sum_getD]
  refine Finset.sum_congr rfl fun k _ => ?_
  rw [getD_filter_range (Above n) (n * n) k.val (by rw [hK]; exact k.isLt)]

end Cert.Gcn

end
-- ==== Proof.Scatter.lean ====
/- Scatters read at one element, at any extents: where an update of a scatter over the entries of a vector, or over the rows
   of a matrix, lands; the accumulating float scatters as sums over the updates; the histogram; the rows that are set. -/
module

public import Idealize.ShloMosaic.Lib.Routing.OpsSet
public import Idealize.ShloMosaic.Lib.Routing.OpsOrder
public import Idealize.ShloMosaic.Lib.Routing.Count
public import Idealize.ShloMosaic.Lib.ValueIdx
public import Idealize.ShloMosaic.Lib.ValueIdxRank1
public import Idealize.ShloMosaic.PureOps.Ideal

@[expose] public section

noncomputable section

namespace Cert.Gcn

open Idealize.ShloMosaic Idealize.ShloMosaic.ValueIdx Idealize.ShloMosaic.Routing

/-- The dimension numbers of a scatter of `M` scalars into a vector of `N`, one index word each. -/
def vecDims (N M : Nat) (h : ScatterDims.WF (shape1 N) (shape2 M 1) (shape1 M) [] [0] [0] 1) :
    ScatterDims (shape1 N) (shape2 M 1) (shape1 M) where
  updateWindowDims := []
  insertedWindowDims := [0]
  scatterDimsToOperandDims := [0]
  indexVectorDim := 1
  wf := h

/-- The dimension numbers of a scatter of `M` rows of `B` entries into a matrix of `N` rows, one index word each. -/
def rowDims (N M B : Nat) (h : ScatterDims.WF (shape2 N B) (shape2 M 1) (shape2 M B) [1] [0] [0] 1) :
    ScatterDims (shape2 N B) (shape2 M 1) (shape2 M B) where
  updateWindowDims := [1]
  insertedWindowDims := [0]
  scatterDimsToOperandDims := [0]
  indexVectorDim := 1
  wf := h

/-- Scalar `e` lands at entry `v` exactly when its index word, read signed, is `v`. -/
theorem vec_lands {N M : Nat} (h) (idx : IVec (shape2 M 1) 32) (e : Fin M) (v : Fin N) :
    (vecDims N M h).resultIdx? (ix1 e) idx = some (ix1 v) ↔ (idx (ix2 e (0 : Fin 1))).toInt = (v.val : Int) := by
  have hs : (vecDims N M h).start (ix1 e) idx 0 = (idx (ix2 e (0 : Fin 1))).toInt := by
    refine congrArg (fun q => (idx q).toInt) (funext fun a => ?_)
    match a with
    | ⟨0, _⟩ => rfl
    | ⟨1, _⟩ => rfl
  have hw : (vecDims N M h).window (ix1 e) 0 = 0 := rfl
  rw [resultIdx?_ix1, hs, hw, Int.natCast_zero, Int.add_zero]

/-- Entry `g` of row `e` lands at `(v, f)` exactly when the row's index word, read signed, is `v`, and `g` is `f`. -/
theorem row_lands {N M B : Nat} (h) (idx : IVec (shape2 M 1) 32) (e : Fin M) (g : Fin B) (v : Fin N) (f : Fin B) :
    (rowDims N M B h).resultIdx? (ix2 e g) idx = some (ix2 v f)
      ↔ (idx (ix2 e (0 : Fin 1))).toInt = (v.val : Int) ∧ g = f := by
  have hs : (rowDims N M B h).start (ix2 e g) idx 0 = (idx (ix2 e (0 : Fin 1))).toInt := by
    refine congrArg (fun q => (idx q).toInt) (funext fun a => ?_)
    match a with
    | ⟨0, _⟩ => rfl
    | ⟨1, _⟩ => rfl
  have hs1 : (rowDims N M B h).start (ix2 e g) idx 1 = 0 := rfl
  have hw : (rowDims N M B h).window (ix2 e g) 0 = 0 := rfl
  have hw1 : (rowDims N M B h).window (ix2 e g) 1 = g.val := rfl
  rw [resultIdx?_ix2, hs, hw, hs1, hw1, Fin.ext_iff]
  omega

/-- An accumulating float scatter of scalars, read at entry `v`: the entry plus the sum of the scalars whose index is `v`. -/
theorem scatterAdd_vec {N M : Nat} (h) (x : FVec Ideal (shape1 N) .f32) (idx : IVec (shape2 M 1) 32)
    (upd : FVec Ideal (shape1 M) .f32) (v : Fin N) :
    Host.scatterAdd (vecDims N M h) x idx upd (ix1 v)
      = x (ix1 v) + ∑ e : Fin M, if (idx (ix2 e (0 : Fin 1))).toInt = (v.val : Int) then upd (ix1 e) else (0 : EReal) := by
  show x (ix1 v) + ∑ j ∈ Finset.univ.filter (fun j => (vecDims N M h).resultIdx? j idx = some (ix1 v)), upd j = _
  rw [Finset.sum_filter, ← Equiv.sum_comp (idxEquiv1 (n := M)).symm]
  refine congrArg (x (ix1 v) + ·) (Finset.sum_congr rfl fun e _ => ?_)
  exact if_congr (vec_lands h idx e v) rfl rfl

/-- An accumulating float scatter of rows, read at `(v, f)`: the entry plus the sum of entry `f` of the rows whose index is `v`. -/
theorem scatterAdd_row {N M B : Nat} (h) (x : FVec Ideal (shape2 N B) .f32) (idx : IVec (shape2 M 1) 32)
    (upd : FVec Ideal (shape2 M B) .f32) (v : Fin N) (f : Fin B) :
    Host.scatterAdd (rowDims N M B h) x idx upd (ix2 v f)
      = x (ix2 v f) + ∑ e : Fin M, if (idx (ix2 e (0 : Fin 1))).toInt = (v.val : Int) then upd (ix2 e f) else (0 : EReal) := by
  show x (ix2 v f) + ∑ j ∈ Finset.univ.filter (fun j => (rowDims N M B h).resultIdx? j idx = some (ix2 v f)), upd j = _
  rw [Finset.sum_filter, sum_idx2]
  refine congrArg (x (ix2 v f) + ·) (Finset.sum_congr rfl fun e _ => ?_)
  simp only [row_lands h idx e]
  by_cases hv : (idx (ix2 e (0 : Fin 1))).toInt = (v.val : Int)
  · simp only [hv, true_and, if_true]
    rw [Finset.sum_ite_eq' Finset.univ f fun g => upd (ix2 e g), if_pos (Finset.mem_univ f)]
  · simp only [hv, false_and, if_false, Finset.sum_const_zero]

/-- A histogram over words: adding one at each index word into zeros leaves, at entry `y`, the number of updates whose index
    is `y`. The indices are given as naturals below `2 ^ 31`; one that is past the vector's end is dropped. -/
theorem histogram {N M : Nat} (h) (x0 : IVec (shape1 N) 32) (hx0 : ∀ i, x0 i = 0#32) (idx : IVec (shape2 M 1) 32)
    (upd : IVec (shape1 M) 32) (hupd : ∀ i, upd i = 1#32) (c : Nat → Nat)
    (hc : ∀ e : Fin M, idx (ix2 e (0 : Fin 1)) = BitVec.ofNat 32 (c e.val)) (hc31 : ∀ e : Fin M, c e.val < 2 ^ 31) (y : Fin N) :
    Host.scatter (vecDims N M h) IntOp.addi x0 idx upd (ix1 y) = BitVec.ofNat 32 (Nat.count (fun e => c e = y.val) M) := by
  rw [scatter_at]
  have hit : ∀ n : Fin (shape1 M).numel, (vecDims N M h).resultIdx? ((shape1 M).rowMajor.symm n) idx = some (ix1 y) ↔ c n.val = y.val := by
    intro n
    rw [symm1, vec_lands, hc, StableHlo.Predicate.toInt_ofNat_small _ (hc31 _)]
    exact Int.ofNat_inj
  have step : ∀ (l : List (Fin (shape1 M).numel)) (z : Nat),
      l.foldl (fun a n => if (vecDims N M h).resultIdx? ((shape1 M).rowMajor.symm n) idx = some (ix1 y)
          then IntOp.addi a (upd ((shape1 M).rowMajor.symm n)) else a) (BitVec.ofNat 32 z)
        = BitVec.ofNat 32 (z + l.countP fun n => decide (c n.val = y.val)) := by
    intro l
    induction l with
    | nil => intro z; rfl
    | cons n l ih =>
      intro z
      rw [List.foldl_cons, List.countP_cons]
      by_cases e : c n.val = y.val
      · rw [if_pos ((hit n).2 e), hupd, show IntOp.addi (BitVec.ofNat 32 z) 1#32 = BitVec.ofNat 32 (z + 1) from (BitVec.ofNat_add z 1).symm, ih]
        simp only [e, decide_true, if_true]
        exact congrArg _ (by omega)
      · rw [if_neg fun q => e ((hit n).1 q), ih]
        simp only [e, decide_false, Bool.false_eq_true, if_false, Nat.add_zero]
  rw [hx0, show (0#32 : BitVec 32) = BitVec.ofNat 32 0 from rfl, step, Nat.zero_add, countP_finRange _ fun e => c e = y.val, numel1]

/-- Rows set at distinct places: where row `e` is the only one whose index word is `v`, the result holds at `(v, f)` entry `f` of
    row `e`. -/
theorem set_row {α : Type} {N M B : Nat} (h) (x0 : (shape2 N B).Idx → α) (idx : IVec (shape2 M 1) 32) (upd : (shape2 M B).Idx → α)
    (e : Fin M) (v : Fin N) (f : Fin B) (he : (idx (ix2 e (0 : Fin 1))).toInt = (v.val : Int))
    (hone : ∀ e' : Fin M, (idx (ix2 e' (0 : Fin 1))).toInt = (v.val : Int) → e' = e) :
    Host.scatter (rowDims N M B h) (fun _ b => b) x0 idx upd (ix2 v f) = upd (ix2 e f) := by
  refine scatter_set_hit _ x0 idx upd _ _ (fun k hk => ?_) (ix2 e f) ((row_lands h idx e f v f).2 ⟨he, rfl⟩)
  rw [eq_ix2 k] at hk ⊢
  obtain ⟨h1, h2⟩ := (row_lands h idx (k 0) (k 1) v f).1 hk
  exact congrArg upd (congrArg₂ ix2 (hone _ h1) h2)

end Cert.Gcn

end
-- ==== Proof.RefIndex.lean ====
/- The reference's list of node pairs read at an index: entry `k` of its first column is the row, and entry `k` of its second
   the column, of the `k`-th position above the diagonal of the 768 by 768 square, in row-major order. -/
module

public import proofs.«01_k».proof.Proof.Gen.ReferenceIdeal.Run
public import proofs.«01_k».proof.Proof.Pairs
public import proofs.«01_k».proof.Proof.Scatter
public import Idealize.ShloMosaic.Lib.Routing.Words
public import Idealize.ShloMosaic.Lib.Routing.OpsPair
public import Idealize.ShloMosaic.Lib.IdealHost

@[expose] public section

noncomputable section

namespace Cert.Gcn

open Idealize.ShloMosaic Idealize.ShloMosaic.ValueIdx Idealize.ShloMosaic.Routing
open Cert.ReferenceIdeal Cert.ReferenceIdeal.Gen Cert.ReferenceIdeal.Value

/-- The arguments of the reference program as it is launched. -/
abbrev RefArgs := Valuation Cert.ReferenceIdeal.τ Cert.ReferenceIdeal.sig (Elt Ideal)

/-- The triangle's bit: 0.0 where the row reaches the column, 1.0 elsewhere, compared with 0.0. -/
theorem triangle_bit {a b : Nat} (ha : a < 768) (hb : b < 768) :
    Ideal.cmp .une (Scalar.select (IntOp.cmpi .sge (IntOp.addi (BitVec.ofNat 32 a) 0#32) (BitVec.ofNat 32 b))
      (Ideal.ofBits .f32 0x00000000#32) (Ideal.ofBits .f32 0x3F800000#32)) (Ideal.ofBits .f32 0x00000000#32)
      = BitVec.ofBool (decide (a < b)) := by
  have e : IntOp.addi (BitVec.ofNat 32 a) 0#32 = BitVec.ofNat 32 a := BitVec.add_zero _
  rw [e, WordCmp.cmpi_sge_ofNat (w := 32) (by omega) (by omega), WordCmp.select_decide, Ideal.ofBits_zero_f32, Ideal.ofBits_one_f32]
  by_cases h : b ≤ a
  · rw [if_pos h, decide_eq_false (Nat.not_lt.2 h)]
    simp [Ideal.cmp]
  · rw [if_neg h, decide_eq_true (Nat.lt_of_not_le h)]
    simp [Ideal.cmp]

variable (V : RefArgs)

/-- The flattened mask holds at position `p` the bit of "p lies above the diagonal". -/
theorem v12_at (p : Fin 589824) :
    (res_main_v12 (F := Ideal) V : IVec (shape1 589824) 1) (ix1 p) = BitVec.ofBool (decide (Above 768 p.val)) := by
  have hp := p.isLt
  have hi : p.val / 768 < 768 := by omega
  have hj : p.val % 768 < 768 := by omega
  have hc := cast21 (α := EReal) (a := 768) (b := 768) (n := 589824)
    (select (cmpi .sge (addi (iotaInDim S768x768 32 0) (broadcastInDim S768x768 ![] bcast_S_S768x768 (constantI S_ 32 0#32))) (iotaInDim S768x768 32 1))
      (broadcastInDim S768x768 ![] bcast_S_S768x768 (constant (F := Ideal) S_ .f32 0x00000000#32))
      (broadcastInDim S768x768 ![] bcast_S_S768x768 (constant (F := Ideal) S_ .f32 0x3F800000#32)))
    shapeCasts_S768x768_S589824 ⟨p.val / 768, hi⟩ ⟨p.val % 768, hj⟩ p (by show p.val = p.val / 768 * 768 + p.val % 768; omega)
  have := triangle_bit hi hj
  unfold res_main_v12
  refine Eq.trans ?_ this
  exact congrArg (fun t => Ideal.cmp .une t (Ideal.ofBits .f32 0x00000000#32)) hc

/-- The mask as words of zero or one. -/
theorem v12_word (p : Fin 589824) :
    (extui 32 (res_main_v12 (F := Ideal) V) natLt_1_32 : IVec (shape1 589824) 32) (ix1 p) = BitVec.ofNat 32 (if Above 768 p.val then 1 else 0) := by
  have h := v12_at V p
  refine Eq.trans ?_ (setWidth_ofBool (Above 768 p.val))
  exact congrArg (BitVec.setWidth 32) h

/-- The running count of the mask: at `p`, how many of the positions up to and including `p` lie above the diagonal. -/
theorem v13_at (p : Fin 589824) :
    (res_main_v13 (F := Ideal) V : IVec (shape1 589824) 32) (ix1 p) = BitVec.ofNat 32 (Nat.count (Above 768) (p.val + 1)) := by
  unfold res_main_v13
  rw [← sum_map_ite (Above 768) (p.val + 1)]
  exact cumsum1 (N := 589824) (Nm1 := 589823) (by norm_num) _ (fun c => if Above 768 c then 1 else 0) (v12_word V) _ rfl _ _ p

/-- A count of positions of the square is no more than their number. -/
theorem count_le_square (p : Nat) : Nat.count (Above 768) p ≤ p := Nat.count_le _

/-- Every position that the running count passes over: entry `k` is the position of the `k`-th pair. -/
theorem v23_at (k : Fin 294528) :
    (res_main_v23 (F := Ideal) V : IVec (shape1 294528) 32) (ix1 k) = BitVec.ofNat 32 (place 768 k.val) := by
  unfold res_main_v23
  have hpl : place 768 k.val = Nat.count (fun p => Nat.count (Above 768) (p + 1) ≤ k.val) 589824 := rfl
  rw [hpl, ← sum_count_eq (fun p => Nat.count (Above 768) (p + 1)) k.val 589824]
  refine cumsum1 (N := 294528) (Nm1 := 294527) (by norm_num) _
    (fun y => Nat.count (fun p => Nat.count (Above 768) (p + 1) = y) 589824) (fun y => ?_) _ rfl _ _ k
  refine histogram (N := 294528) (M := 589824) _ _ (fun i => rfl) _ _ (fun i => rfl) (fun p => Nat.count (Above 768) (p + 1)) (fun p => ?_) (fun p => ?_) y
  · have hp := p.isLt
    have hv := v13_at V p
    have hle := count_le_square (p.val + 1)
    refine (bcCol (n := 589824) _ _ p).trans ?_
    refine (wrap_of_lt (w := 32) _ _ ?_).trans hv
    rw [hv, BitVec.toNat_ofNat]
    exact lt_of_le_of_lt (Nat.mod_le _ _) (by norm_num; omega)
  · have hp := p.isLt
    have hle := count_le_square (p.val + 1)
    norm_num; omega

/-- The number of pairs, as the reference counts it. -/
theorem total_at : (Host.reduce IntOp.addi (extui 32 (res_main_v12 (F := Ideal) V) natLt_1_32) (constantI S_ 32 0#32) reducesTo_S589824_S_d0 h_S_ : IVec shape0 32) ix0
    = BitVec.ofNat 32 294528 := by
  have h := reduce_sum (N := 589824) (extui 32 (res_main_v12 (F := Ideal) V) natLt_1_32) (fun c => if Above 768 c then 1 else 0) (v12_word V)
    reducesTo_S589824_S_d0 h_S_
  have hs : Nat.count (Above 768) 589824 = 294528 := by
    rw [show (589824 : ℕ) = 768 * 768 by norm_num]
    exact count_above_768
  rw [sum_map_ite (Above 768) 589824, hs] at h
  exact h

/-- A scalar stretched to one entry and then to a vector is that scalar at every entry. -/
theorem bcOne {α : Type} {n : Nat} (h : (shape1 1).BroadcastsInDim (shape1 n) (![0] : Fin 1 → Fin (shape1 n).rank))
    (h0 : shape0.BroadcastsInDim (shape1 1) (![] : Fin 0 → Fin (shape1 1).rank)) (v : shape0.Idx → α) (p : Fin n) :
    broadcastInDim (shape1 n) ![0] h (broadcastInDim (shape1 1) ![] h0 v) (ix1 p) = v ix0 := by
  unfold broadcastInDim
  exact congrArg v (eq_ix0 _)

/-- No entry of the list lies past the pairs' number. -/
theorem v33_at (k : Fin 294528) : (res_main_v33 (F := Ideal) V : IVec (shape1 294528) 1) (ix1 k) = 0#1 := by
  have hk := k.isLt
  have e : (res_main_v33 (F := Ideal) V : IVec (shape1 294528) 1) (ix1 k) = IntOp.cmpi .sge (BitVec.ofNat 32 k.val) (BitVec.ofNat 32 294528) := by
    unfold res_main_v33
    exact congrArg (IntOp.cmpi .sge (BitVec.ofNat 32 k.val)) ((bcOne (n := 294528) _ _ _ k).trans (total_at V))
  rw [e, WordCmp.cmpi_sge_ofNat (w := 32) (by norm_num; omega) (by norm_num), decide_eq_false (by omega)]
  rfl

/-- The `k`-th pair's position lies in the square. -/
theorem place_bound (k : Fin 294528) : place 768 k.val < 589824 :=
  place_lt 768 k.val (by rw [count_above_768]; exact k.isLt)

/-- The first node of pair `k`: the row of its position. -/
theorem v34_at (k : Fin 294528) :
    (res_main_v34 (F := Ideal) V : IVec (shape1 294528) 32) (ix1 k) = BitVec.ofNat 32 (place 768 k.val / 768) := by
  have hb := place_bound k
  have h1 : pyDiv (s := shape1 294528) bcast_S_S294528 (res_main_v23 (F := Ideal) V) (constantI shape0 32 768#32) (ix1 k) = BitVec.ofNat 32 (place 768 k.val / 768) :=
    pyDiv_ap _ _ _ _ (v23_at V k) rfl (by omega) (by norm_num) (by norm_num)
  have h2 := pyRem_ap (s := shape1 294528) bcast_S_S294528 _ (constantI shape0 32 768#32) (ix1 k) h1 rfl (by omega) (by norm_num) (by norm_num)
  rw [Nat.mod_eq_of_lt (show place 768 k.val / 768 < 768 by omega)] at h2
  have e : (res_main_v34 (F := Ideal) V : IVec (shape1 294528) 32) (ix1 k) = Scalar.select ((res_main_v33 (F := Ideal) V : IVec (shape1 294528) 1) (ix1 k)) 0#32
      (pyRem (s := shape1 294528) bcast_S_S294528 (pyDiv (s := shape1 294528) bcast_S_S294528 (res_main_v23 (F := Ideal) V) (constantI shape0 32 768#32)) (constantI shape0 32 768#32) (ix1 k)) := rfl
  rw [e, v33_at, h2]
  rfl

/-- The second node of pair `k`: the column of its position. -/
theorem v35_at (k : Fin 294528) :
    (res_main_v35 (F := Ideal) V : IVec (shape1 294528) 32) (ix1 k) = BitVec.ofNat 32 (place 768 k.val % 768) := by
  have hb := place_bound k
  have h1 : pyDiv (s := shape1 294528) bcast_S_S294528 (res_main_v23 (F := Ideal) V) (constantI shape0 32 1#32) (ix1 k) = BitVec.ofNat 32 (place 768 k.val / 1) :=
    pyDiv_ap _ _ _ _ (v23_at V k) rfl (by omega) (by norm_num) (by norm_num)
  rw [Nat.div_one] at h1
  have h2 := pyRem_ap (s := shape1 294528) bcast_S_S294528 _ (constantI shape0 32 768#32) (ix1 k) h1 rfl (by omega) (by norm_num) (by norm_num)
  have e : (res_main_v35 (F := Ideal) V : IVec (shape1 294528) 32) (ix1 k) = Scalar.select ((res_main_v33 (F := Ideal) V : IVec (shape1 294528) 1) (ix1 k)) 0#32
      (pyRem (s := shape1 294528) bcast_S_S294528 (pyDiv (s := shape1 294528) bcast_S_S294528 (res_main_v23 (F := Ideal) V) (constantI shape0 32 1#32)) (constantI shape0 32 768#32) (ix1 k)) := rfl
  rw [e, v33_at, h2]
  rfl

end Cert.Gcn

end
-- ==== Proof.Edges.lean ====
/- The edge list of the graph, and sums over the edges that reach one node: with the nodes visited in the order `σ`, the edges
   are the pairs of an earlier and a later node, and a loop at every node. -/
module

public import proofs.«01_k».proof.Proof.Pairs
public import Mathlib.Algebra.BigOperators.Fin

@[expose] public section

noncomputable section

namespace Cert.Gcn

/-- The number of pairs reaches the number of positions above the diagonal: pair `k`'s position lies in the square. -/
theorem pair_bound {k : Nat} (hk : k < 294528) : place 768 k < 589824 :=
  place_lt 768 k (by rw [count_above_768]; exact hk)

/-- The node an edge leaves: the earlier node of a pair, or the node of a loop. -/
def srcOf (σ : Fin 768 → Fin 768) (e : Fin 295296) : Fin 768 :=
  if h : e.val < 294528 then σ ⟨place 768 e.val / 768, by have := pair_bound h; omega⟩ else ⟨e.val - 294528, by have := e.isLt; omega⟩

/-- The node an edge reaches: the later node of a pair, or the node of a loop. -/
def dstOf (σ : Fin 768 → Fin 768) (e : Fin 295296) : Fin 768 :=
  if h : e.val < 294528 then σ ⟨place 768 e.val % 768, by omega⟩ else ⟨e.val - 294528, by have := e.isLt; omega⟩

/-- A sum over `n + m` terms, the first `n` and the last `m` apart. -/
theorem sum_split {M : Type*} [AddCommMonoid M] {n m N : Nat} (hN : n + m = N) (F : Fin N → M) :
    ∑ e, F e = (∑ k : Fin n, F ⟨k.val, by have := k.isLt; omega⟩) + ∑ k : Fin m, F ⟨n + k.val, by have := k.isLt; omega⟩ := by
  subst hN
  exact Fin.sum_univ_add F

/-- The sum over the pairs. -/
theorem sum_pairs {M : Type*} [AddCommMonoid M] (F : Fin 768 → Fin 768 → M) :
    ∑ k : Fin 294528, F ⟨place 768 k.val / 768, by have := pair_bound k.isLt; omega⟩ ⟨place 768 k.val % 768, by omega⟩
      = ∑ i : Fin 768, ∑ j : Fin 768, if i.val < j.val then F i j else 0 := by
  let g : Nat → Nat → M := fun a b => if h : a < 768 ∧ b < 768 then F ⟨a, h.1⟩ ⟨b, h.2⟩ else 0
  have hg : ∀ (i j : Fin 768), g i.val j.val = F i j := fun i j => dif_pos ⟨i.isLt, j.isLt⟩
  refine Eq.trans (Finset.sum_congr rfl fun k _ => ?_) ((sum_places 768 294528 count_above_768 g).trans ?_)
  · exact (hg ⟨_, _⟩ ⟨_, _⟩).symm
  · refine Finset.sum_congr rfl fun i _ => Finset.sum_congr rfl fun j _ => ?_
    rw [hg]

/-- The sum over the edges that reach the node visited at step `j`: one term for every node visited at step `j` or before. -/
theorem sum_edges {M : Type*} [AddCommMonoid M] (σ : Fin 768 → Fin 768) (hσ : Function.Injective σ) (G : Fin 768 → M) (j : Fin 768) :
    (∑ e, if dstOf σ e = σ j then G (srcOf σ e) else 0) = ∑ i : Fin 768, if i.val ≤ j.val then G (σ i) else 0 := by
  have h1 := sum_split (n := 294528) (m := 768) (N := 295296) rfl fun e => if dstOf σ e = σ j then G (srcOf σ e) else 0
  have h2 : ∀ k : Fin 294528, (if dstOf σ ⟨k.val, by have := k.isLt; omega⟩ = σ j then G (srcOf σ ⟨k.val, by have := k.isLt; omega⟩) else 0)
      = (fun a b : Fin 768 => if b = j then G (σ a) else 0) ⟨place 768 k.val / 768, by have := pair_bound k.isLt; omega⟩ ⟨place 768 k.val % 768, by omega⟩ := by
    intro k
    have hs : srcOf σ ⟨k.val, by have := k.isLt; omega⟩ = σ ⟨place 768 k.val / 768, by have := pair_bound k.isLt; omega⟩ := dif_pos k.isLt
    have hd : dstOf σ ⟨k.val, by have := k.isLt; omega⟩ = σ ⟨place 768 k.val % 768, by omega⟩ := dif_pos k.isLt
    rw [hs, hd]
    exact if_congr hσ.eq_iff rfl rfl
  have h3 : ∀ v : Fin 768, (if dstOf σ ⟨294528 + v.val, by have := v.isLt; omega⟩ = σ j then G (srcOf σ ⟨294528 + v.val, by have := v.isLt; omega⟩) else 0)
      = if v = σ j then G v else 0 := by
    intro v
    have hn : ¬ 294528 + v.val < 294528 := by omega
    have hv : 294528 + v.val - 294528 = v.val := by omega
    have hs : srcOf σ ⟨294528 + v.val, by have := v.isLt; omega⟩ = v := (dif_neg hn).trans (Fin.ext hv)
    have hd : dstOf σ ⟨294528 + v.val, by have := v.isLt; omega⟩ = v := (dif_neg hn).trans (Fin.ext hv)
    rw [hs, hd]
  rw [h1, Finset.sum_congr rfl fun k _ => h2 k, sum_pairs (fun a b : Fin 768 => if b = j then G (σ a) else 0), Finset.sum_congr rfl fun v _ => h3 v, Finset.sum_ite_eq' Finset.univ (σ j) G,
    if_pos (Finset.mem_univ _)]
  have h4 : ∀ i : Fin 768, (∑ b : Fin 768, if i.val < b.val then (if b = j then G (σ i) else 0) else 0) = if i.val < j.val then G (σ i) else 0 := by
    intro i
    rw [Finset.sum_eq_single j]
    · rw [if_pos rfl]
    · intro b _ hb
      rw [if_neg hb, ite_self]
    · intro h
      exact absurd (Finset.mem_univ _) h
  rw [Finset.sum_congr rfl fun i _ => h4 i]
  have h5 : G (σ j) = ∑ i : Fin 768, if i = j then G (σ i) else 0 := by
    rw [Finset.sum_ite_eq' Finset.univ j (fun i => G (σ i)), if_pos (Finset.mem_univ _)]
  rw [h5, ← Finset.sum_add_distrib]
  refine Finset.sum_congr rfl fun i _ => ?_
  rcases lt_trichotomy i.val j.val with h | h | h
  · rw [if_pos h, if_neg (fun e => by rw [e] at h; omega), if_pos h.le, add_zero]
  · rw [if_neg (by omega), if_pos (Fin.ext h), if_pos h.le, zero_add]
  · rw [if_neg (by omega), if_neg (fun e => by rw [e] at h; omega), if_neg (by omega), add_zero]

/-- An injection of the nodes reaches every node. -/
theorem visits_all (σ : Fin 768 → Fin 768) (hσ : Function.Injective σ) (v : Fin 768) : ∃ j, σ j = v :=
  (Finite.injective_iff_surjective.1 hσ) v

end Cert.Gcn

end
-- ==== Proof.RefLayer.lean ====
/- One graph convolution as the reference performs it: the rows of the nodes that edges leave, weighted, summed into the rows of the
   nodes that the edges reach; and the degrees that the weights come from. Read at a node, both are sums over the nodes visited
   no later than it. -/
module

public import proofs.«01_k».proof.Proof.Gen.ReferenceIdeal.Run
public import proofs.«01_k».proof.Proof.Edges
public import proofs.«01_k».proof.Proof.Scatter
public import Idealize.ShloMosaic.Lib.Routing.Words
public import Idealize.ShloMosaic.Lib.Routing.OpsPair
public import Idealize.ShloMosaic.Lib.IdealHost
public import Idealize.ShloMosaic.Lib.WordArith

@[expose] public section

noncomputable section

namespace Cert.Gcn

open Idealize.ShloMosaic
open Idealize.ShloMosaic.ValueIdx Idealize.ShloMosaic.Routing
open Cert.ReferenceIdeal Cert.ReferenceIdeal.Gen Cert.ReferenceIdeal.Value

/-- A column of indices in which negative ones have been wrapped around holds, at an entry that is a small natural, that natural. -/
theorem wrapped_at {M a : Nat} (hb : (shape1 M).BroadcastsInDim (shape2 M 1) (![0] : Fin 1 → Fin (shape2 M 1).rank))
    (h0 : shape0.BroadcastsInDim (shape1 M) (![] : Fin 0 → Fin (shape1 M).rank)) (v z : IVec (shape1 M) 32) (e : Fin M)
    (hv : v (ix1 e) = BitVec.ofNat 32 a) (ha : a < 2 ^ 31) :
    broadcastInDim (shape2 M 1) ![0] hb (select (cmpi .slt v (broadcastInDim (shape1 M) ![] h0 (constantI shape0 32 0#32))) (addi v z) v) (ix2 e (0 : Fin 1))
      = BitVec.ofNat 32 a := by
  refine (bcCol hb _ e).trans ?_
  refine (wrap_of_lt (w := 32) (v (ix1 e)) _ ?_).trans hv
  rw [hv, BitVec.toNat_ofNat]
  exact lt_of_le_of_lt (Nat.mod_le _ _) ha

/-- The edges' node numbers as a column, negative ones wrapped around. -/
def column (v : IVec S295296 32) : IVec S295296x1 32 :=
  broadcastInDim S295296x1 ![0] bcast_S295296_S295296x1_0 (select (cmpi .slt v (broadcastInDim S295296 ![] bcast_S_S295296 (constantI S_ 32 0#32))) (addi v (broadcastInDim S295296 ![] bcast_S_S295296 (constantI S_ 32 768#32))) v)

/-- The weights' sums over the edges that reach each node. -/
def degrees (dst : IVec S295296 32) (w : FVec Ideal S295296 .f32) : FVec Ideal S768 .f32 :=
  Host.scatterAdd scatter_S768_S295296x1_S295296_n_0_0_1 (broadcastInDim S768 ![] bcast_S_S768 (constant S_ .f32 0x00000000#32)) (column dst) w

/-- The degrees' inverse square roots, zero at a degree that is not positive. -/
def invRoots (deg : FVec Ideal S768 .f32) : FVec Ideal S768 .f32 :=
  select (cmpf .ogt deg (broadcastInDim S768 ![] bcast_S_S768 (constant S_ .f32 0x00000000#32))) (Host.rsqrt (select (cmpf .ogt deg (broadcastInDim S768 ![] bcast_S_S768 (constant S_ .f32 0x00000000#32))) deg (broadcastInDim S768 ![] bcast_S_S768 (id (constant S_ .f32 0x3F800000#32))))) (broadcastInDim S768 ![] bcast_S_S768 (id (constant S_ .f32 0x00000000#32)))

/-- Every edge's weight, scaled by the two nodes' inverse roots. -/
def coefficients (src dst : IVec S295296 32) (w : FVec Ideal S295296 .f32) (dis : FVec Ideal S768 .f32) : FVec Ideal S295296 .f32 :=
  mulf (mulf (Host.gather gather_S768_S295296x1_S295296_n_0_n_n_0_1_1 dis (column src)) w) (Host.gather gather_S768_S295296x1_S295296_n_0_n_n_0_1_1 dis (column dst))

/-- The scaled rows of the nodes that edges leave, summed into the rows of the nodes that the edges reach. -/
def aggregate (src dst : IVec S295296 32) (w : FVec Ideal S295296 .f32) (dis : FVec Ideal S768 .f32) (h : FVec Ideal S768x256 .f32) : FVec Ideal S768x256 .f32 :=
  Host.scatterAdd scatter_S768x256_S295296x1_S295296x256_1_0_0_1 (broadcastInDim S768x256 ![] bcast_S_S768x256 (constant S_ .f32 0x00000000#32)) (column dst)
    (mulf (broadcastInDim S295296x256 ![0, 1] bcast_S295296x1_S295296x256_0_1 (broadcastInDim S295296x1 ![0] bcast_S295296_S295296x1_0 (coefficients src dst w dis)))
      (Host.gather gather_S768x256_S295296x1_S295296x256_1_0_n_n_0_1_1256 h (column src)))

section
variable {σ : Fin 768 → Fin 768} (hσ : Function.Injective σ) {src dst : IVec S295296 32} {w : FVec Ideal S295296 .f32}
  (hsrc : ∀ e : Fin 295296, (src : IVec (shape1 295296) 32) (ix1 e) = BitVec.ofNat 32 (srcOf σ e).val)
  (hdst : ∀ e : Fin 295296, (dst : IVec (shape1 295296) 32) (ix1 e) = BitVec.ofNat 32 (dstOf σ e).val)
  (hw : ∀ e : Fin 295296, (w : FVec Ideal (shape1 295296) .f32) (ix1 e) = (1 : EReal))

/-- A column of node numbers, read at an edge. -/
theorem column_at {v : IVec S295296 32} {g : Fin 295296 → Fin 768}
    (hv : ∀ e : Fin 295296, (v : IVec (shape1 295296) 32) (ix1 e) = BitVec.ofNat 32 (g e).val) (e : Fin 295296) :
    (column v : IVec (shape2 295296 1) 32) (ix2 e (0 : Fin 1)) = BitVec.ofNat 32 (g e).val := by
  have := (g e).isLt
  exact wrapped_at (M := 295296) _ _ _ _ e (hv e) (by omega)

/-- A column of node numbers, read signed, equals a node's number exactly where the edge names that node. -/
theorem column_eq {v : IVec S295296 32} {g : Fin 295296 → Fin 768}
    (hv : ∀ e : Fin 295296, (v : IVec (shape1 295296) 32) (ix1 e) = BitVec.ofNat 32 (g e).val) (e : Fin 295296) (k : Fin 768) :
    ((column v : IVec (shape2 295296 1) 32) (ix2 e (0 : Fin 1))).toInt = (k.val : Int) ↔ g e = k := by
  have := (g e).isLt
  rw [column_at hv e, WordArith.toInt_ofNat_small _ (by omega)]
  constructor
  · intro h
    exact Fin.ext (by exact_mod_cast h)
  · rintro rfl
    rfl

include hσ hdst hw in
/-- The degree of the node visited at step `j`: itself and every node visited before it. -/
theorem degrees_at (j : Fin 768) : (degrees dst w : FVec Ideal (shape1 768) .f32) (ix1 (σ j)) = (((j.val : ℝ) + 1 : ℝ) : EReal) := by
  have h := scatterAdd_vec (N := 768) (M := 295296) scatter_S768_S295296x1_S295296_n_0_0_1_wf
    (broadcastInDim S768 ![] bcast_S_S768 (constant S_ .f32 0x00000000#32)) (column dst) w (σ j)
  refine h.trans ?_
  have hz : (broadcastInDim S768 ![] bcast_S_S768 (constant (F := Ideal) S_ .f32 0x00000000#32) : FVec Ideal (shape1 768) .f32) (ix1 (σ j)) = (0 : EReal) :=
    Ideal.ofBits_zero_f32
  rw [hz, zero_add, Finset.sum_congr rfl fun e _ => (if_congr (column_eq hdst e (σ j)) (hw e) rfl), sum_edges σ hσ (fun _ => (1 : EReal)) j]
  have hc : ((Finset.univ : Finset (Fin 768)).filter fun i => i.val ≤ j.val).card = j.val + 1 := by
    have : ((Finset.univ : Finset (Fin 768)).filter fun i => i.val ≤ j.val) = Finset.Iic j := by
      ext i
      rw [Finset.mem_filter, Finset.mem_Iic, Fin.le_def]
      exact ⟨fun h => h.2, fun h => ⟨Finset.mem_univ _, h⟩⟩
    rw [this, Fin.card_Iic]
  rw [← Finset.sum_filter, Finset.sum_const, hc]
  rw [nsmul_one]
  push_cast
  rfl

/-- The inverse roots at a node, from the node's degree. -/
theorem invRoots_read (deg : FVec Ideal S768 .f32) (v : Fin 768) :
    (invRoots deg : FVec Ideal (shape1 768) .f32) (ix1 v)
      = Scalar.select (Ideal.cmp .ogt ((deg : FVec Ideal (shape1 768) .f32) (ix1 v)) (Ideal.ofBits .f32 0x00000000#32))
          (Ideal.rsqrt (Scalar.select (Ideal.cmp .ogt ((deg : FVec Ideal (shape1 768) .f32) (ix1 v)) (Ideal.ofBits .f32 0x00000000#32))
            ((deg : FVec Ideal (shape1 768) .f32) (ix1 v)) (Ideal.ofBits .f32 0x3F800000#32))) (Ideal.ofBits .f32 0x00000000#32) := rfl

include hσ hdst hw in
/-- The inverse root of that degree. -/
theorem invRoots_at (j : Fin 768) :
    (invRoots (degrees dst w) : FVec Ideal (shape1 768) .f32) (ix1 (σ j)) = Ideal.rsqrt (((j.val : ℝ) + 1 : ℝ) : EReal) := by
  have hd := degrees_at hσ hdst hw j
  have hpos : (0 : EReal) < (((j.val : ℝ) + 1 : ℝ) : EReal) := by
    have : (0 : ℝ) < (j.val : ℝ) + 1 := by positivity
    exact_mod_cast this
  have e := invRoots_read (degrees dst w) (σ j)
  have hc : Ideal.cmp .ogt (((j.val : ℝ) + 1 : ℝ) : EReal) 0 = 1#1 := by
    show BitVec.ofBool (decide _) = _
    rw [decide_eq_true hpos]
    rfl
  rw [e, hd, Ideal.ofBits_zero_f32, hc]
  rfl

include hσ hsrc hdst hw in
/-- A graph convolution's row at the node visited at step `j`: the sum over the nodes visited no later than it. -/
theorem aggregate_at (dis : FVec Ideal S768 .f32) (h : FVec Ideal S768x256 .f32) (j : Fin 768) (f : Fin 256) :
    (aggregate src dst w dis h : FVec Ideal (shape2 768 256) .f32) (ix2 (σ j) f)
      = ∑ i : Fin 768, if i.val ≤ j.val then
          (dis : FVec Ideal (shape1 768) .f32) (ix1 (σ i)) * (dis : FVec Ideal (shape1 768) .f32) (ix1 (σ j)) * (h : FVec Ideal (shape2 768 256) .f32) (ix2 (σ i) f)
        else (0 : EReal) := by
  have hs := scatterAdd_row (N := 768) (M := 295296) (B := 256) scatter_S768x256_S295296x1_S295296x256_1_0_0_1_wf
    (broadcastInDim S768x256 ![] bcast_S_S768x256 (constant S_ .f32 0x00000000#32)) (column dst)
    (mulf (broadcastInDim S295296x256 ![0, 1] bcast_S295296x1_S295296x256_0_1 (broadcastInDim S295296x1 ![0] bcast_S295296_S295296x1_0 (coefficients src dst w dis)))
      (Host.gather gather_S768x256_S295296x1_S295296x256_1_0_n_n_0_1_1256 h (column src))) (σ j) f
  refine hs.trans ?_
  have hz : (broadcastInDim S768x256 ![] bcast_S_S768x256 (constant (F := Ideal) S_ .f32 0x00000000#32) : FVec Ideal (shape2 768 256) .f32) (ix2 (σ j) f) = (0 : EReal) :=
    Ideal.ofBits_zero_f32
  have hu : ∀ e : Fin 295296, (mulf (broadcastInDim S295296x256 ![0, 1] bcast_S295296x1_S295296x256_0_1 (broadcastInDim S295296x1 ![0] bcast_S295296_S295296x1_0 (coefficients src dst w dis)))
      (Host.gather gather_S768x256_S295296x1_S295296x256_1_0_n_n_0_1_1256 h (column src)) : FVec Ideal (shape2 295296 256) .f32) (ix2 e f)
      = (dis : FVec Ideal (shape1 768) .f32) (ix1 (srcOf σ e)) * (dis : FVec Ideal (shape1 768) .f32) (ix1 (dstOf σ e)) * (h : FVec Ideal (shape2 768 256) .f32) (ix2 (srcOf σ e) f) := by
    intro e
    have g1 := gather_take1 (N := 768) (n := 295296) gather_S768_S295296x1_S295296_n_0_n_n_0_1_1 rfl rfl rfl rfl dis (column src) e (srcOf σ e) (column_at hsrc e) (by norm_num)
    have g2 := gather_take1 (N := 768) (n := 295296) gather_S768_S295296x1_S295296_n_0_n_n_0_1_1 rfl rfl rfl rfl dis (column dst) e (dstOf σ e) (column_at hdst e) (by norm_num)
    have g3 := gather_row (nb := 768) (B := 256) (n := 295296) gather_S768x256_S295296x1_S295296x256_1_0_n_n_0_1_1256 rfl rfl rfl rfl rfl h (column src) e f (srcOf σ e)
      (column_at hsrc e) (by norm_num)
    have gw := hw e
    have gc : (coefficients src dst w dis : FVec Ideal (shape1 295296) .f32) (ix1 e)
        = (dis : FVec Ideal (shape1 768) .f32) (ix1 (srcOf σ e)) * 1 * (dis : FVec Ideal (shape1 768) .f32) (ix1 (dstOf σ e)) :=
      congrArg₂ (fun a b : EReal => a * b) (congrArg₂ (fun a b : EReal => a * b) g1 gw) g2
    have gb := bcRows (n := 295296) (m := 256) bcast_S295296_S295296x1_0 bcast_S295296x1_S295296x256_0_1 (coefficients src dst w dis) e f
    rw [mul_one] at gc
    exact congrArg₂ (fun a b : EReal => a * b) (gb.trans gc) g3
  rw [hz, zero_add, Finset.sum_congr rfl fun e _ => (if_congr (column_eq hdst e (σ j)) (hu e) rfl)]
  have hj : ∀ e : Fin 295296, (if dstOf σ e = σ j then (dis : FVec Ideal (shape1 768) .f32) (ix1 (srcOf σ e)) * (dis : FVec Ideal (shape1 768) .f32) (ix1 (dstOf σ e)) * (h : FVec Ideal (shape2 768 256) .f32) (ix2 (srcOf σ e) f) else (0 : EReal))
      = if dstOf σ e = σ j then (fun v : Fin 768 => (dis : FVec Ideal (shape1 768) .f32) (ix1 v) * (dis : FVec Ideal (shape1 768) .f32) (ix1 (σ j)) * (h : FVec Ideal (shape2 768 256) .f32) (ix2 v f)) (srcOf σ e) else (0 : EReal) := by
    intro e
    by_cases hd : dstOf σ e = σ j
    · rw [if_pos hd, if_pos hd, hd]
    · rw [if_neg hd, if_neg hd]
  rw [Finset.sum_congr rfl fun e _ => hj e]
  exact sum_edges σ hσ (fun v : Fin 768 => (dis : FVec Ideal (shape1 768) .f32) (ix1 v) * (dis : FVec Ideal (shape1 768) .f32) (ix1 (σ j)) * (h : FVec Ideal (shape2 768 256) .f32) (ix2 v f)) j

end

end Cert.Gcn

end
-- ==== Proof.Weights.lean ====
/- Real entries, and a softmax over an axis of one entry: arrays all of whose entries are real numbers stay so under the
   operations of a perceptron, and on such an array the softmax over an axis of extent one is the constant one. -/
module

public import Idealize.ShloMosaic.Lib.Routing.OpsOrder
public import Idealize.ShloMosaic.Lib.Routing.Ops
public import Idealize.ShloMosaic.Lib.Pointwise.SelectCore
public import Idealize.ShloMosaic.Lib.Pipeline.Value
public import Idealize.ShloMosaic.Lib.ValueIdx
public import Idealize.ShloMosaic.Lib.IdealHost
public import Idealize.ShloMosaic.PureOps.Ideal

@[expose] public section

noncomputable section

namespace Cert.Gcn

open Idealize.ShloMosaic hiding ix0 ix1 ix2
open Idealize.ShloMosaic.ValueIdx Idealize.ShloMosaic.Routing

/-- An extended real that is a real number. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is real. -/
theorem IsReal.max {x y : EReal} (hx : IsReal x) (hy : IsReal y) : IsReal (Max.max x y) := by
  rcases max_choice x y with h | h <;> rw [h] <;> assumption

/-- Zero is real. -/
theorem IsReal.zero : IsReal 0 := ⟨0, EReal.coe_zero.symm⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) IsReal.zero h

/-- A value whose absolute value is below infinity is real. -/
theorem IsReal.of_abs_lt {x : EReal} (h : Max.max x (-x) < ⊤) : IsReal x := by
  induction x with
  | bot => simp at h
  | coe r => exact ⟨r, rfl⟩
  | top => simp at h

section Arrays
variable {s t : Shape}

/-- Every entry of the array is a real number. -/
def AllReal {s : Shape} (x : s.Idx → EReal) : Prop := ∀ i, IsReal (x i)

/-- Entrywise sums keep entries real. -/
theorem AllReal.addf {x y : FVec Ideal s .f32} (hx : AllReal x) (hy : AllReal y) : AllReal (addf x y) := fun i => (hx i).add (hy i)
/-- Entrywise maxima keep entries real. -/
theorem AllReal.maximumf {x y : FVec Ideal s .f32} (hx : AllReal x) (hy : AllReal y) : AllReal (maximumf x y) := fun i => (hx i).max (hy i)
/-- Stretching keeps entries real. -/
theorem AllReal.broadcastInDim {d : Fin s.rank → Fin t.rank} (h : s.BroadcastsInDim t d) {x : s.Idx → EReal} (hx : AllReal x) :
    AllReal (broadcastInDim t d h x) := fun _ => hx _
/-- A permutation of the axes keeps entries real. -/
theorem AllReal.transpose {p : List (Fin s.rank)} (h : s.Transposes p t) {x : s.Idx → EReal} (hx : AllReal x) :
    AllReal (transpose t p x h) := fun _ => hx _
/-- A gather keeps entries real. -/
theorem AllReal.gather {si : Shape} {w : Nat} (d : GatherDims s si t) (idx : IVec si w) {x : s.Idx → EReal} (hx : AllReal x) :
    AllReal (Host.gather d x idx) := fun _ => hx _
/-- Two arrays with real entries side by side have real entries. -/
theorem AllReal.concatenate {s₁ s₂ : Shape} (a : Fin t.rank) {x₁ : s₁.Idx → EReal} {x₂ : s₂.Idx → EReal}
    (h : Shape.Concatenates [s₁, s₂] t a) (h₁ : AllReal x₁) (h₂ : AllReal x₂) :
    AllReal (concatenate t a [⟨s₁, x₁⟩, ⟨s₂, x₂⟩] h) := fun j => by
  refine concatenate_forall t a [⟨s₁, x₁⟩, ⟨s₂, x₂⟩] h (fun p hp i => ?_) j
  rcases List.mem_cons.1 hp with rfl | hp
  · exact h₁ i
  · obtain rfl := List.mem_singleton.1 hp
    exact h₂ i
/-- Rows set from real entries over real entries are real. -/
theorem AllReal.scatter {si u : Shape} {w : Nat} (d : ScatterDims s si u) {x : s.Idx → EReal} (idx : IVec si w) {upd : u.Idx → EReal}
    (hx : AllReal x) (hu : AllReal upd) : AllReal (Host.scatter d (fun _ b => b) x idx upd) :=
  fun i => scatter_forall d _ IsReal (fun _ _ _ h => h) x idx upd hx hu i
/-- A matrix product of real entries has real entries. -/
theorem AllReal.dotGeneral {sl sr so : Shape} (d : DotDims sl sr so) {x : FVec Ideal sl .f32} {y : FVec Ideal sr .f32}
    (hx : AllReal x) (hy : AllReal y) : AllReal (Host.dotGeneral d none x y) := fun _ =>
  IsReal.zero.add (IsReal.sum _ _ fun _ _ => (hx _).mul (hy _))
/-- The zero constant is real. -/
theorem AllReal.zero : AllReal (constant (F := Ideal) s .f32 0x00000000#32) := fun _ => by
  show IsReal (Ideal.ofBits .f32 0x00000000#32)
  rw [Ideal.ofBits_zero_f32]
  exact IsReal.zero

end Arrays

/-! ## The softmax over an axis of one entry -/

/-- Dropping the leading axis of extent one sends `(0, k)`, and no other index, to `k`. -/
theorem drop_iff {n : Nat} (h : (shape2 1 n).ReducesTo [0] (shape1 n)) (i : (shape2 1 n).Idx) (k : Fin n) :
    h.drop i = ix1 k ↔ i = ix2 (0 : Fin 1) k := by
  obtain ⟨a, b, rfl⟩ : ∃ a b, i = ix2 a b := ⟨i 0, i 1, ValueIdx.eq_ix2 i⟩
  have ha : a = 0 := Subsingleton.elim _ _
  subst ha
  have hd : h.drop (ix2 (0 : Fin 1) b) = ix1 b := by
    funext c
    obtain rfl : c = 0 := Subsingleton.elim _ _
    exact Fin.ext rfl
  rw [hd]
  constructor
  · intro e
    have := congrFun e 0
    obtain rfl : b = k := this
    rfl
  · intro e
    have := congrFun e 1
    obtain rfl : b = k := this
    rfl

/-- The sum over an axis of one entry is that entry. -/
theorem sum_one {n : Nat} (h : (shape2 1 n).ReducesTo [0] (shape1 n)) (x : (shape2 1 n).Idx → EReal) (b : EReal) (k : Fin n) :
    Ideal.hostReduceAdd h x b (ix1 k) = b + x (ix2 (0 : Fin 1) k) := by
  unfold Ideal.hostReduceAdd
  rw [Finset.filter_congr (fun i _ => drop_iff h i k), Finset.filter_eq' Finset.univ, if_pos (Finset.mem_univ _), Finset.sum_singleton]

/-- A running maximum over a list of one repeated value is at most the larger of that value and where it starts. -/
theorem foldl_max_same {ι : Type} (g : ι → EReal) (a : EReal) (l : List ι) (hl : ∀ i ∈ l, g i = a) (b : EReal) :
    l.foldl (fun r i => max r (g i)) b = if l = [] then b else max b a := by
  induction l generalizing b with
  | nil => rfl
  | cons c l ih =>
    rw [List.foldl_cons, ih (fun i hi => hl i (List.mem_cons_of_mem _ hi)), hl c List.mem_cons_self, if_neg (List.cons_ne_nil _ _)]
    split
    · rfl
    · rw [max_assoc, max_self]

/-- The maximum over an axis of one entry is the larger of that entry and the starting value. -/
theorem max_one {n : Nat} (h : (shape2 1 n).ReducesTo [0] (shape1 n)) (hu : 0 < shape0.numel) (x : (shape2 1 n).Idx → EReal)
    (b : shape0.Idx → EReal) (k : Fin n) :
    Host.reduce (fun r y : EReal => max r y) x b h hu (ix1 k) = max (b ix0) (x (ix2 (0 : Fin 1) k)) := by
  unfold Host.reduce
  rw [foldl_max_same (fun i => x ((shape2 1 n).rowMajor.symm i)) (x (ix2 (0 : Fin 1) k))]
  · rw [if_neg, eq_ix0 (Shape.Idx.first hu)]
    refine List.ne_nil_of_mem (a := (shape2 1 n).rowMajor (ix2 (0 : Fin 1) k)) (List.mem_filter.2 ⟨List.mem_finRange _, ?_⟩)
    rw [Equiv.symm_apply_apply]
    exact decide_eq_true ((drop_iff h _ k).2 rfl)
  · intro i hi
    have := of_decide_eq_true (List.mem_filter.1 hi).2
    rw [(drop_iff h _ k).1 this]

/-- A real less itself is zero, whose exponential is one. -/
theorem exp_self {x : EReal} (hx : IsReal x) : Ideal.exp (x - x) = 1 := by
  obtain ⟨r, rfl⟩ := hx
  rw [← EReal.coe_sub, sub_self]
  show ((Real.exp 0 : ℝ) : EReal) = 1
  rw [Real.exp_zero]
  rfl

/-- One over one is one. -/
theorem div_one_one : Ideal.div 1 (0 + 1) = 1 := by
  rw [zero_add]
  unfold Ideal.div
  rw [if_neg one_ne_zero, inv_one, one_mul]

/-- A vector laid out as one row, read at an entry. -/
theorem row_at {α : Type} {n : Nat} (hb : (shape1 n).BroadcastsInDim (shape2 1 n) (![1] : Fin 1 → Fin (shape2 1 n).rank)) (v : (shape1 n).Idx → α) (k : Fin n) :
    broadcastInDim (shape2 1 n) ![1] hb v (ix2 (0 : Fin 1) k) = v (ix1 k) := by
  refine broadcastInDim_apply _ hb v _ _ fun a => ?_
  obtain rfl : a = (0 : Fin 1) := Subsingleton.elim _ _
  show k.val = if n = 1 then 0 else k.val
  have := k.isLt
  split <;> omega

/-- Negative infinity's bits. -/
theorem ofBits_neg_inf : Ideal.ofBits .f32 0xFF800000#32 = ⊥ := by
  simp [Ideal.ofBits, Ideal.ieee]

/-- The exponential of real scores less the maximum over an axis of one entry is one everywhere. -/
theorem exps_at {n : Nat} (L : FVec Ideal (shape2 1 n) .f32) (hL : AllReal L)
    (hb : (shape1 n).BroadcastsInDim (shape2 1 n) (![1] : Fin 1 → Fin (shape2 1 n).rank))
    (h0 : shape0.BroadcastsInDim (shape1 n) (![] : Fin 0 → Fin (shape1 n).rank)) (hr : (shape2 1 n).ReducesTo [0] (shape1 n)) (hu : 0 < shape0.numel) (k : Fin n) :
    (Host.exp (subf L (broadcastInDim (shape2 1 n) ![1] hb (maximumf (broadcastInDim (shape1 n) ![] h0 (constant (F := Ideal) shape0 .f32 0xFF800000#32))
      (Host.reduce FloatOps.maximumf L (constant (F := Ideal) shape0 .f32 0xFF800000#32) hr hu)))) : FVec Ideal (shape2 1 n) .f32) (ix2 (0 : Fin 1) k) = (1 : EReal) := by
  have hm : Host.reduce FloatOps.maximumf L (constant (F := Ideal) shape0 .f32 0xFF800000#32) hr hu (ix1 k) = L (ix2 (0 : Fin 1) k) := by
    refine (max_one hr hu L _ k).trans ?_
    exact (congrArg (fun b : EReal => max b (L (ix2 (0 : Fin 1) k))) ofBits_neg_inf).trans (max_eq_right bot_le)
  have hx : (maximumf (broadcastInDim (shape1 n) ![] h0 (constant (F := Ideal) shape0 .f32 0xFF800000#32))
      (Host.reduce FloatOps.maximumf L (constant (F := Ideal) shape0 .f32 0xFF800000#32) hr hu) : FVec Ideal (shape1 n) .f32) (ix1 k) = L (ix2 (0 : Fin 1) k) := by
    refine (congrArg₂ (fun a b : EReal => max a b) ofBits_neg_inf hm).trans (max_eq_right bot_le)
  refine Eq.trans ?_ (exp_self (hL (ix2 (0 : Fin 1) k)))
  exact congrArg (fun t : EReal => Ideal.exp ((L (ix2 (0 : Fin 1) k) : EReal) - t)) ((row_at hb _ k).trans hx)

/-- An entry of one over the sum of an axis of one such entry is one. -/
theorem shares_at {n : Nat} (E : FVec Ideal (shape2 1 n) .f32) (k : Fin n) (hE : E (ix2 (0 : Fin 1) k) = (1 : EReal))
    (hb : (shape1 n).BroadcastsInDim (shape2 1 n) (![1] : Fin 1 → Fin (shape2 1 n).rank))
    (hr : (shape2 1 n).ReducesTo [0] (shape1 n)) (hu : 0 < shape0.numel) :
    (Host.divf E (broadcastInDim (shape2 1 n) ![1] hb (Host.reduceAdd E (constant (F := Ideal) shape0 .f32 0x00000000#32) hr hu)) : FVec Ideal (shape2 1 n) .f32)
      (ix2 (0 : Fin 1) k) = (1 : EReal) := by
  have hs : (Host.reduceAdd E (constant (F := Ideal) shape0 .f32 0x00000000#32) hr hu : FVec Ideal (shape1 n) .f32) (ix1 k) = (0 + 1 : EReal) := by
    refine (sum_one hr E _ k).trans ?_
    rw [hE]
    exact congrArg (fun b : EReal => b + 1) Ideal.ofBits_zero_f32
  refine Eq.trans ?_ div_one_one
  exact congrArg₂ (fun a b : EReal => Ideal.div a b) hE ((row_at hb _ k).trans hs)

/-- One row turned into one column and flattened, read at an entry. -/
theorem flattened_at {α : Type} {n : Nat} (x : (shape2 1 n).Idx → α) (ht : (shape2 1 n).Transposes [1, 0] (shape2 n 1))
    (hc : (shape2 n 1).ShapeCasts (shape1 n)) (k : Fin n) :
    shapeCast (shape1 n) (transpose (shape2 n 1) [1, 0] x ht) hc (ix1 k) = x (ix2 (0 : Fin 1) k) := by
  refine (cast21 _ hc k (0 : Fin 1) k (by show k.val = k.val * 1 + 0; omega)).trans ?_
  refine transpose_apply _ x ht _ _ fun b => ?_
  match b with
  | ⟨0, _⟩ => rfl
  | ⟨1, _⟩ => rfl

end Cert.Gcn

end
-- ==== Proof.RefNodes.lean ====
/- The reference's graph read at an index, for arguments that are as the precondition says: the node indices name the 768 nodes in
   some order, each once, and the entries that the edge scores come from are real numbers. The edges' ends, the edges' weights,
   which are all one, and the rows that the nodes start with. -/
module

public import proofs.«01_k».proof.Proof.RefIndex
public import proofs.«01_k».proof.Proof.RefLayer
public import proofs.«01_k».proof.Proof.Weights

@[expose] public section

noncomputable section

namespace Cert.Gcn

open Idealize.ShloMosaic hiding ix0 ix1 ix2
open Idealize.ShloMosaic.ValueIdx Idealize.ShloMosaic.Routing
open Cert.ReferenceIdeal Cert.ReferenceIdeal.Gen Cert.ReferenceIdeal.Value

/-- The arguments are proper: the indices list the nodes in the order `σ`, and the scores' arguments are real. -/
structure Proper (V : RefArgs) (σ : Fin 768 → Fin 768) : Prop where
  inj : Function.Injective σ
  index : ∀ j : Fin 768, (V (Proc.devRef .tc main_arg1) : IVec (shape1 768) 32) (ix1 j) = BitVec.ofNat 32 (σ j).val
  x : AllReal (V (Proc.devRef .tc main_arg0) : FVec Ideal S768x256 .f32)
  w0 : AllReal (V (Proc.devRef .tc main_arg2) : FVec Ideal S512x512 .f32)
  b0 : AllReal (V (Proc.devRef .tc main_arg3) : FVec Ideal S512 .f32)
  w1 : AllReal (V (Proc.devRef .tc main_arg4) : FVec Ideal S512x512 .f32)
  b1 : AllReal (V (Proc.devRef .tc main_arg5) : FVec Ideal S512 .f32)
  wm : AllReal (V (Proc.devRef .tc main_arg6) : FVec Ideal S512x1 .f32)
  bm : AllReal (V (Proc.devRef .tc main_arg7) : FVec Ideal S1 .f32)

/-- Two vectors end to end, read at an entry. -/
theorem joined_at {α : Type} {n m N : Nat} (x₁ : (shape1 n).Idx → α) (x₂ : (shape1 m).Idx → α)
    (h : Shape.Concatenates [shape1 n, shape1 m] (shape1 N) 0) (e : Fin N) (hN : n + m = N) :
    concatenate (shape1 N) 0 [⟨shape1 n, x₁⟩, ⟨shape1 m, x₂⟩] h (ix1 e)
      = if hlt : e.val < n then x₁ (ix1 ⟨e.val, hlt⟩) else x₂ (ix1 ⟨e.val - n, by have := e.isLt; omega⟩) := by
  by_cases hlt : e.val < n
  · rw [dif_pos hlt]
    refine concatenate_pair_apply_left _ x₁ x₂ h _ rfl _ fun b => ?_
    obtain rfl : b = (0 : Fin 1) := Subsingleton.elim _ _
    rfl
  · rw [dif_neg hlt]
    refine concatenate_pair_apply_right _ x₁ x₂ h _ rfl rfl _ (fun b hb => ?_) ?_
    · exact absurd (Subsingleton.elim (α := Fin 1) _ _) hb
    · show e.val - n + n = e.val
      omega

section
variable {V : RefArgs} {σ : Fin 768 → Fin 768} (hV : Proper V σ)

include hV

/-- The earlier node of pair `k`. -/
theorem v42_at (k : Fin 294528) : (res_main_v42 (F := Ideal) V : IVec (shape1 294528) 32) (ix1 k)
    = BitVec.ofNat 32 (σ ⟨place 768 k.val / 768, by have := pair_bound k.isLt; omega⟩).val := by
  have hb := pair_bound k.isLt
  unfold res_main_v42
  refine (gather_take1 (N := 768) (n := 294528) _ rfl rfl rfl rfl _ _ k ⟨place 768 k.val / 768, by omega⟩ ?_ (by norm_num)).trans (hV.index _)
  exact wrapped_at (M := 294528) _ _ _ _ k (v34_at V k) (by omega)

/-- The later node of pair `k`. -/
theorem v49_at (k : Fin 294528) : (res_main_v49 (F := Ideal) V : IVec (shape1 294528) 32) (ix1 k)
    = BitVec.ofNat 32 (σ ⟨place 768 k.val % 768, by omega⟩).val := by
  unfold res_main_v49
  refine (gather_take1 (N := 768) (n := 294528) _ rfl rfl rfl rfl _ _ k ⟨place 768 k.val % 768, by omega⟩ ?_ (by norm_num)).trans (hV.index _)
  exact wrapped_at (M := 294528) _ _ _ _ k (v35_at V k) (by omega)

/-- The node that edge `e` leaves. -/
theorem v92_at (e : Fin 295296) : (res_main_v92 (F := Ideal) V : IVec (shape1 295296) 32) (ix1 e) = BitVec.ofNat 32 (srcOf σ e).val := by
  unfold res_main_v92
  refine (joined_at (n := 294528) (m := 768) (N := 295296) _ _ _ e rfl).trans ?_
  by_cases h : e.val < 294528
  · rw [dif_pos h, v42_at hV ⟨e.val, h⟩]
    unfold srcOf
    rw [dif_pos h]
  · rw [dif_neg h]
    unfold srcOf
    rw [dif_neg h]
    rfl

/-- The node that edge `e` reaches. -/
theorem v93_at (e : Fin 295296) : (res_main_v93 (F := Ideal) V : IVec (shape1 295296) 32) (ix1 e) = BitVec.ofNat 32 (dstOf σ e).val := by
  unfold res_main_v93
  refine (joined_at (n := 294528) (m := 768) (N := 295296) _ _ _ e rfl).trans ?_
  by_cases h : e.val < 294528
  · rw [dif_pos h, v49_at hV ⟨e.val, h⟩]
    unfold dstOf
    rw [dif_pos h]
  · rw [dif_neg h]
    unfold dstOf
    rw [dif_neg h]
    rfl

/-- The rows placed at their nodes are real. -/
theorem v7_real : AllReal (res_main_v7 (F := Ideal) V : FVec Ideal S768x256 .f32) := by
  unfold res_main_v7
  exact AllReal.scatter _ _ (AllReal.broadcastInDim _ AllReal.zero) hV.x

/-- The edges' scores are real. -/
theorem v79_real : AllReal (res_main_v79 (F := Ideal) V : FVec Ideal S1x294528 .f32) := by
  unfold res_main_v79
  refine AllReal.transpose _ (AllReal.addf (AllReal.dotGeneral _ ?_ hV.wm) (AllReal.broadcastInDim _ (AllReal.broadcastInDim _ hV.bm)))
  refine AllReal.maximumf (AllReal.addf (AllReal.dotGeneral _ ?_ hV.w1) (AllReal.broadcastInDim _ (AllReal.broadcastInDim _ hV.b1))) (AllReal.broadcastInDim _ AllReal.zero)
  refine AllReal.maximumf (AllReal.addf (AllReal.dotGeneral _ ?_ hV.w0) (AllReal.broadcastInDim _ (AllReal.broadcastInDim _ hV.b0))) (AllReal.broadcastInDim _ AllReal.zero)
  exact AllReal.concatenate _ _ (AllReal.gather _ _ (v7_real hV)) (AllReal.gather _ _ (v7_real hV))

/-- A score less the largest score of its group of one, exponentiated, is one. -/
theorem v85_at (k : Fin 294528) : (res_main_v85 (F := Ideal) V : FVec Ideal (shape2 1 294528) .f32) (ix2 (0 : Fin 1) k) = (1 : EReal) := by
  unfold res_main_v85
  exact exps_at (n := 294528) _ (v79_real hV) _ _ _ _ k

/-- Every pair's weight is one. -/
theorem v90_at (k : Fin 294528) : (res_main_v90 (F := Ideal) V : FVec Ideal (shape1 294528) .f32) (ix1 k) = (1 : EReal) := by
  unfold res_main_v90
  exact (flattened_at (n := 294528) _ _ _ k).trans (shares_at (n := 294528) _ k (v85_at hV k) _ _ _)

/-- Every edge's weight is one. -/
theorem v95_at (e : Fin 295296) : (res_main_v95 (F := Ideal) V : FVec Ideal (shape1 295296) .f32) (ix1 e) = (1 : EReal) := by
  unfold res_main_v95
  refine (joined_at (n := 294528) (m := 768) (N := 295296) _ _ _ e rfl).trans ?_
  by_cases h : e.val < 294528
  · rw [dif_pos h]
    exact v90_at hV ⟨e.val, h⟩
  · rw [dif_neg h]
    exact Ideal.ofBits_one_f32

/-- The row that the node visited at step `j` starts with is row `j` of the features. -/
theorem v7_at (j : Fin 768) (f : Fin 256) : (res_main_v7 (F := Ideal) V : FVec Ideal (shape2 768 256) .f32) (ix2 (σ j) f)
    = (V (Proc.devRef .tc main_arg0) : FVec Ideal (shape2 768 256) .f32) (ix2 j f) := by
  unfold res_main_v7
  have hidx : ∀ e : Fin 768, (broadcastInDim S768x1 ![0] bcast_S768_S768x1_0 (select (cmpi .slt (V (Proc.devRef .tc main_arg1)) (broadcastInDim S768 ![] bcast_S_S768 (constantI S_ 32 0#32))) (addi (V (Proc.devRef .tc main_arg1)) (broadcastInDim S768 ![] bcast_S_S768 (constantI S_ 32 768#32))) (V (Proc.devRef .tc main_arg1))) : IVec (shape2 768 1) 32) (ix2 e (0 : Fin 1))
      = BitVec.ofNat 32 (σ e).val := fun e => wrapped_at (M := 768) _ _ _ _ e (hV.index e) (by have := (σ e).isLt; omega)
  refine set_row (N := 768) (M := 768) (B := 256) _ _ _ _ j (σ j) f ?_ fun e he => ?_
  · rw [hidx, WordArith.toInt_ofNat_small _ (by have := (σ j).isLt; omega)]
  · rw [hidx, WordArith.toInt_ofNat_small _ (by have := (σ e).isLt; omega)] at he
    exact hV.inj (Fin.ext (by exact_mod_cast he))

end

end Cert.Gcn

end
-- ==== Proof.RefValue.lean ====
/- The reference's result, for proper arguments: entry `(j, f)` is the network's, on the features taken row by row in the order in
   which the node indices list them. -/
module

public import proofs.«01_k».proof.Proof.RefNodes
public import proofs.«01_k».proof.Proof.Network
public import Idealize.ShloMosaic.Lib.StackMember

@[expose] public section

noncomputable section

namespace Cert.Gcn

open Idealize.ShloMosaic hiding ix0 ix1 ix2
open Idealize.ShloMosaic.ValueIdx Idealize.ShloMosaic.Routing
open Cert.ReferenceIdeal Cert.ReferenceIdeal.Gen Cert.ReferenceIdeal.Value

/-- One of the reference's graph convolutions, from the graph's arrays, a matrix of rows, the weights and the bias. -/
def refLayer (V : RefArgs) (x : FVec Ideal S768x256 .f32) (w : FVec Ideal S256x256 .f32) (b : FVec Ideal S256 .f32) : FVec Ideal S768x256 .f32 :=
  addf (aggregate (res_main_v92 (F := Ideal) V) (res_main_v93 (F := Ideal) V) (res_main_v95 (F := Ideal) V)
      (invRoots (degrees (res_main_v93 (F := Ideal) V) (res_main_v95 (F := Ideal) V)))
      (Host.dotGeneral dot_S768x256_S256x256_S768x256_1_0_0_1_n_n none x w))
    (broadcastInDim S768x256 ![0, 1] bcast_S1x256_S768x256_0_1 (broadcastInDim S1x256 ![1] bcast_S256_S1x256_1 b))

/-- The negative entries set to zero. -/
def refRelu (x : FVec Ideal S768x256 .f32) : FVec Ideal S768x256 .f32 :=
  maximumf x (broadcastInDim S768x256 ![] bcast_S_S768x256 (constant S_ .f32 0x00000000#32))

/-- The rows in the order in which the node indices list them. -/
def refTake (idx : IVec S768 32) (x : FVec Ideal S768x256 .f32) : FVec Ideal S768x256 .f32 :=
  Host.gather gather_S768x256_S768x1_S768x256_1_0_n_n_0_1_1256 x
    (broadcastInDim S768x1 ![0] bcast_S768_S768x1_0 (select (cmpi .slt idx (broadcastInDim S768 ![] bcast_S_S768 (constantI S_ 32 0#32))) (addi idx (broadcastInDim S768 ![] bcast_S_S768 (constantI S_ 32 768#32))) idx))

/-- The reference's result is its two graph convolutions, taken in the order of the node indices. -/
theorem v214_eq (V : RefArgs) : res_main_v214 (F := Ideal) V
    = refTake (V (Proc.devRef .tc main_arg1)) (refLayer V (refRelu (refLayer V (res_main_v7 (F := Ideal) V) (V (Proc.devRef .tc main_arg8)) (V (Proc.devRef .tc main_arg9))))
        (V (Proc.devRef .tc main_arg10)) (V (Proc.devRef .tc main_arg11))) := rfl

/-- A sum over the nodes visited no later than step `j`, its parts named. -/
theorem gathered_of (σ : Fin 768 → Fin 768) (dis : FVec Ideal (shape1 768) .f32) (P : FVec Ideal (shape2 768 256) .f32) (h : Fin 768 → Fin 256 → EReal)
    (hr : ∀ i, dis (ix1 (σ i)) = root i) (j : Fin 768) (f : Fin 256) (hd : ∀ i, P (ix2 (σ i) f) = h i f) :
    (∑ i : Fin 768, if i.val ≤ j.val then (dis (ix1 (σ i)) : EReal) * dis (ix1 (σ j)) * P (ix2 (σ i) f) else (0 : EReal)) = gathered h j f := by
  unfold gathered
  refine Finset.sum_congr rfl fun i _ => ?_
  rw [hr, hr, hd]

section
variable {V : RefArgs} {σ : Fin 768 → Fin 768} (hV : Proper V σ)

include hV in
/-- One of the reference's graph convolutions, read at the node visited at step `j`. -/
theorem refLayer_at (x : FVec Ideal S768x256 .f32) (w : FVec Ideal S256x256 .f32) (b : FVec Ideal S256 .f32) (j : Fin 768) (f : Fin 256) :
    (refLayer V x w b : FVec Ideal (shape2 768 256) .f32) (ix2 (σ j) f)
      = convolved (fun i k => (x : FVec Ideal (shape2 768 256) .f32) (ix2 (σ i) k)) (fun k g => (w : FVec Ideal (shape2 256 256) .f32) (ix2 k g))
          (fun g => (b : FVec Ideal (shape1 256) .f32) (ix1 g)) j f := by
  have hb := bcCols (n := 768) (m := 256) bcast_S256_S1x256_1 bcast_S1x256_S768x256_0_1 b (σ j) f
  have ha := aggregate_at hV.inj (v92_at hV) (v93_at hV) (v95_at hV) (invRoots (degrees (res_main_v93 (F := Ideal) V) (res_main_v95 (F := Ideal) V)))
    (Host.dotGeneral dot_S768x256_S256x256_S768x256_1_0_0_1_n_n none x w) j f
  have hr : ∀ i, (invRoots (degrees (res_main_v93 (F := Ideal) V) (res_main_v95 (F := Ideal) V)) : FVec Ideal (shape1 768) .f32) (ix1 (σ i)) = root i :=
    fun i => invRoots_at hV.inj (v93_at hV) (v95_at hV) i
  have hd : ∀ i, (Host.dotGeneral dot_S768x256_S256x256_S768x256_1_0_0_1_n_n none x w : FVec Ideal (shape2 768 256) .f32) (ix2 (σ i) f)
      = dense (fun i k => (x : FVec Ideal (shape2 768 256) .f32) (ix2 (σ i) k)) (fun k g => (w : FVec Ideal (shape2 256 256) .f32) (ix2 k g)) i f :=
    fun i => StackMember.dotGeneral_plain_apply (m := 768) (n := 256) (k := 256) none x w (σ i) f
  exact congrArg₂ (fun a b : EReal => a + b) (ha.trans (gathered_of σ _ _ _ hr j f hd)) hb

include hV in
/-- The reference's result at `(j, f)`. -/
theorem reference_at (j : Fin 768) (f : Fin 256) : (res_main_v214 (F := Ideal) V : FVec Ideal (shape2 768 256) .f32) (ix2 j f)
    = network (fun i k => (V (Proc.devRef .tc main_arg0) : FVec Ideal (shape2 768 256) .f32) (ix2 i k))
        (fun k g => (V (Proc.devRef .tc main_arg8) : FVec Ideal (shape2 256 256) .f32) (ix2 k g)) (fun g => (V (Proc.devRef .tc main_arg9) : FVec Ideal (shape1 256) .f32) (ix1 g))
        (fun k g => (V (Proc.devRef .tc main_arg10) : FVec Ideal (shape2 256 256) .f32) (ix2 k g)) (fun g => (V (Proc.devRef .tc main_arg11) : FVec Ideal (shape1 256) .f32) (ix1 g)) j f := by
  rw [v214_eq]
  refine (gather_row (nb := 768) (B := 256) (n := 768) _ rfl rfl rfl rfl rfl _ _ j f (σ j)
    (wrapped_at (M := 768) _ _ _ _ j (hV.index j) (by have := (σ j).isLt; omega)) (by norm_num)).trans ?_
  refine (refLayer_at hV _ _ _ j f).trans ?_
  unfold network
  refine congrArg (fun x => convolved x _ _ j f) (funext fun i => funext fun k => ?_)
  refine congrArg₂ (fun a b : EReal => max a b) ?_ Ideal.ofBits_zero_f32
  refine (refLayer_at hV _ _ _ i k).trans ?_
  exact congrArg (fun x => convolved x _ _ i k) (funext fun i' => funext fun k' => v7_at hV i' k')

end

end Cert.Gcn

end
-- ==== Proof.Precondition.lean ====
/- What the precondition says of the arguments: the node indices list the nodes one after another, each once, and the features and
   the scoring weights are real numbers. -/
module

public import proofs.«01_k».proof.Pre_nodes_and_scores_proper
public import proofs.«01_k».proof.Proof.Weights
public import Idealize.ShloMosaic.Lib.WordCmp

@[expose] public section

noncomputable section

namespace Cert.Gcn

open Idealize.ShloMosaic hiding ix0 ix1 ix2
open Idealize.ShloMosaic.ValueIdx
open Cert.Pre_nodes_and_scores_proper

/-- The precondition's shape conditions hold. -/
theorem preFacts : Cert.Pre_nodes_and_scores_proper.Facts where
  bcast_S_S768 := by decide
  bcast_S768_S768x1_0 := by decide
  bcast_S768_S1x768_1 := by decide
  bcast_S768x1_S768x768_0_1 := by decide
  bcast_S1x768_S768x768_0_1 := by decide
  bcast_S_S768x768 := by decide
  bcast_S_S768x256 := by decide
  bcast_S_S512x512 := by decide
  bcast_S_S512 := by decide
  bcast_S_S512x1 := by decide
  bcast_S_S1 := by decide

/-- The word of positive infinity stands for it. -/
theorem ofBits_pos_inf : Ideal.ofBits .f32 0x7F800000#32 = ⊤ := by simp [Ideal.ofBits, Ideal.ieee]

/-- A value whose absolute value compares below infinity is real. -/
theorem real_of_bit {x : EReal} (h : Ideal.cmp .olt (max x (-x)) (Ideal.ofBits .f32 0x7F800000#32) = 1#1) : IsReal x := by
  rw [ofBits_pos_inf] at h
  refine IsReal.of_abs_lt ?_
  by_contra hn
  have : Ideal.cmp .olt (max x (-x)) ⊤ = 0#1 := by
    show BitVec.ofBool (decide (max x (-x) < ⊤)) = 0#1
    rw [decide_eq_false hn]; rfl
  rw [this] at h
  exact absurd h (by decide)

/-- A word both at least zero and below 768, as signed numbers, is a number below 768. -/
theorem below_of_bits (x : BitVec 32) (h : IntOp.andi (IntOp.cmpi .sge x 0#32) (IntOp.cmpi .slt x 768#32) = 1#1) : x.toNat < 768 := by
  have e := WordCmp.andi_sge_zero_slt_ofNat (w := 32) (k := 768) (by decide) x
  rw [show (BitVec.ofNat 32 768) = 768#32 from rfl] at e
  rw [e] at h
  by_contra hn
  rw [decide_eq_false hn] at h
  exact absurd h (by decide)

/-- If two words either differ or stand at one position, equal words stand at one position. -/
theorem same_of_bits {x y : BitVec 32} {i j : Fin 768}
    (h : IntOp.ori (IntOp.cmpi .ne x y) (IntOp.cmpi .eq (IntOp.addi (BitVec.ofNat 32 i.val) 0#32) (BitVec.ofNat 32 j.val)) = 1#1) (e : x = y) :
    i = j := by
  subst e
  by_contra hn
  have hi := i.isLt
  have hj := j.isLt
  have h1 : IntOp.cmpi .ne x x = 0#1 := by simp [IntOp.cmpi]
  have h0 : IntOp.addi (BitVec.ofNat 32 i.val) 0#32 = BitVec.ofNat 32 i.val := BitVec.add_zero _
  have h2 : IntOp.cmpi .eq (BitVec.ofNat 32 i.val) (BitVec.ofNat 32 j.val) = 0#1 := by
    have : ¬ BitVec.ofNat 32 i.val = BitVec.ofNat 32 j.val := fun q => hn (Fin.ext (by
      have := congrArg BitVec.toNat q
      rw [BitVec.toNat_ofNat, BitVec.toNat_ofNat, Nat.mod_eq_of_lt (by omega), Nat.mod_eq_of_lt (by omega)] at this
      exact this))
    exact congrArg BitVec.ofBool (beq_eq_false_iff_ne.mpr this)
  rw [h1, h0, h2] at h
  exact absurd h (by decide)

section Read
variable [Cert.Pre_nodes_and_scores_proper.Facts]
variable (a0 : FVec Ideal S768x256 .f32) (a1 : IVec S768 32) (a2 : FVec Ideal S512x512 .f32) (a3 : FVec Ideal S512 .f32)
  (a4 : FVec Ideal S512x512 .f32) (a5 : FVec Ideal S512 .f32) (a6 : FVec Ideal S512x1 .f32) (a7 : FVec Ideal S1 .f32)
  (a8 : FVec Ideal S256x256 .f32) (a9 : FVec Ideal S256 .f32) (a10 : FVec Ideal S256x256 .f32) (a11 : FVec Ideal S256 .f32)

/-- The first answer: every node index is a number below 768. -/
theorem index_below (h : (fn (F := Ideal) a0 a1 a2 a3 a4 a5 a6 a7 a8 a9 a10 a11).1 = fun _ => 1#1) (j : Fin 768) : (a1 (ix1 j)).toNat < 768 :=
  below_of_bits _ (congrFun h (ix1 j))

/-- The second answer: no node index occurs twice. -/
theorem index_once (h : (fn (F := Ideal) a0 a1 a2 a3 a4 a5 a6 a7 a8 a9 a10 a11).2.1 = fun _ => 1#1) (i j : Fin 768)
    (e : a1 (ix1 i) = a1 (ix1 j)) : i = j := by
  have hb := congrFun h (ix2 i j)
  have hr : broadcastInDim S768x768 ![0, 1] Facts.bcast_S768x1_S768x768_0_1 (broadcastInDim S768x1 ![0] Facts.bcast_S768_S768x1_0 a1) (ix2 i j)
      = a1 (ix1 i) := congrArg a1 (funext fun a => by fin_cases a; rfl)
  have hc : broadcastInDim S768x768 ![0, 1] Facts.bcast_S1x768_S768x768_0_1 (broadcastInDim S1x768 ![1] Facts.bcast_S768_S1x768_1 a1) (ix2 i j)
      = a1 (ix1 j) := congrArg a1 (funext fun a => by fin_cases a; rfl)
  exact same_of_bits (i := i) (j := j) hb (hr.trans (e.trans hc.symm))

/-- The third answer: the features are real. -/
theorem features_real (h : (fn (F := Ideal) a0 a1 a2 a3 a4 a5 a6 a7 a8 a9 a10 a11).2.2.1 = fun _ => 1#1) : AllReal a0 :=
  fun i => real_of_bit (congrFun h i)
/-- The other answers: the scoring weights and biases are real. -/
theorem weights0_real (h : (fn (F := Ideal) a0 a1 a2 a3 a4 a5 a6 a7 a8 a9 a10 a11).2.2.2.1 = fun _ => 1#1) : AllReal a2 :=
  fun i => real_of_bit (congrFun h i)
theorem bias0_real (h : (fn (F := Ideal) a0 a1 a2 a3 a4 a5 a6 a7 a8 a9 a10 a11).2.2.2.2.1 = fun _ => 1#1) : AllReal a3 :=
  fun i => real_of_bit (congrFun h i)
theorem weights1_real (h : (fn (F := Ideal) a0 a1 a2 a3 a4 a5 a6 a7 a8 a9 a10 a11).2.2.2.2.2.1 = fun _ => 1#1) : AllReal a4 :=
  fun i => real_of_bit (congrFun h i)
theorem bias1_real (h : (fn (F := Ideal) a0 a1 a2 a3 a4 a5 a6 a7 a8 a9 a10 a11).2.2.2.2.2.2.1 = fun _ => 1#1) : AllReal a5 :=
  fun i => real_of_bit (congrFun h i)
theorem score_weights_real (h : (fn (F := Ideal) a0 a1 a2 a3 a4 a5 a6 a7 a8 a9 a10 a11).2.2.2.2.2.2.2.1 = fun _ => 1#1) : AllReal a6 :=
  fun i => real_of_bit (congrFun h i)
theorem score_bias_real (h : (fn (F := Ideal) a0 a1 a2 a3 a4 a5 a6 a7 a8 a9 a10 a11).2.2.2.2.2.2.2.2 = fun _ => 1#1) : AllReal a7 :=
  fun i => real_of_bit (congrFun h i)

end Read

end Cert.Gcn

end
-- ==== Proof.Equation.lean ====
/- The equation: from memories that agree on the arguments, and where the precondition holds, the kernel's result array and the
   reference's are one array. -/
module

public import proofs.«01_k».proof.Defs
public import proofs.«01_k».proof.Proof.KernelArray
public import proofs.«01_k».proof.Proof.RefValue
public import proofs.«01_k».proof.Proof.Precondition

@[expose] public section

noncomputable section

namespace Cert.Gcn

open Idealize.ShloMosaic hiding ix0 ix1 ix2
open Idealize.ShloMosaic.ValueIdx
open Idealize.ShloMosaic.StableHlo (launchContents)

/-- The kernel's memories and the reference's. -/
abbrev KernelMem := (ℓ : Loc Cert.KernelIdeal.nD Cert.KernelIdeal.τ Cert.KernelIdeal.sig) → Buf (Elt Ideal) ℓ
abbrev ReferenceMem := (ℓ : Loc Cert.ReferenceIdeal.nD Cert.ReferenceIdeal.τ Cert.ReferenceIdeal.sig) → Buf (Elt Ideal) ℓ

/-- The precondition of the reference's arguments makes them proper: the node order is what the index words spell. -/
theorem proper_of_pre (m' : ReferenceMem) (h : Pre_ReferenceIdeal_nodes_and_scores_proper (hPre_nodes_and_scores_proper := preFacts) m')
    (c : Dev Cert.ReferenceIdeal.nD) : ∃ σ, Proper (launchContents m' c) σ := by
  letI := preFacts
  obtain ⟨h1, h2, h3, h4, h5, h6, h7, h8, h9⟩ := h c
  have below := index_below _ _ _ _ _ _ _ _ _ _ _ _ h1
  have once := index_once _ _ _ _ _ _ _ _ _ _ _ _ h2
  refine ⟨fun j => ⟨_, below j⟩, ?_, ?_, features_real _ _ _ _ _ _ _ _ _ _ _ _ h3, weights0_real _ _ _ _ _ _ _ _ _ _ _ _ h4,
    bias0_real _ _ _ _ _ _ _ _ _ _ _ _ h5, weights1_real _ _ _ _ _ _ _ _ _ _ _ _ h6, bias1_real _ _ _ _ _ _ _ _ _ _ _ _ h7,
    score_weights_real _ _ _ _ _ _ _ _ _ _ _ _ h8, score_bias_real _ _ _ _ _ _ _ _ _ _ _ _ h9⟩
  · intro i j e
    exact once i j (BitVec.eq_of_toNat_eq (Fin.mk.inj e))
  · intro j
    exact BitVec.eq_of_toNat_eq (by rw [BitVec.toNat_ofNat]; exact (Nat.mod_eq_of_lt (BitVec.isLt _)).symm)

/-- The kernel's result on a device is the reference's, from memories that hold the same arguments. -/
theorem results_equal (m : KernelMem) (m' : ReferenceMem) (c : Dev Cert.KernelIdeal.nD) {σ : Fin 768 → Fin 768}
    (hV : Proper (launchContents m' c) σ)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11)) :
    (Cert.ReferenceIdeal.Value.res_main_v214 (F := Ideal) (launchContents m' c) : (⟨2, ![768, 256]⟩ : Shape).Idx → EReal) = kernelResult m c := by
  funext p
  obtain ⟨j, f, rfl⟩ : ∃ (j : Fin 768) (f : Fin 256), p = ix2 j f := ⟨_, _, ValueIdx.eq_ix2 p⟩
  have hk := kernel_at m c j f
  rw [← h0, ← h8, ← h9, ← h10, ← h11] at hk
  exact (reference_at hV j f).trans hk.symm

end Cert.Gcn

end
-- ==== Proof.lean ====
/- The certificate: the kernel, its ideal program and the reference run without fault, leave their arguments unchanged and every
   semaphore counter at zero; and, over the extended reals and where the precondition holds, the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem
open Idealize.ShloMosaic.StableHlo (launchContents)

/-- The reference keeps its arguments and, having no semaphore, leaves every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem values : Cert.algebraic_KernelIdeal_ReferenceIdeal_pre_nodes_and_scores_proper (hKernelIdeal := Cert.KernelIdeal.Gen.facts)
    (hReferenceIdeal := Cert.ReferenceIdeal.Gen.facts) (hPre_nodes_and_scores_proper := Cert.Gcn.preFacts) := by
  intro m g m' g' hpre hargs
  have hpre' : Cert.Pre_ReferenceIdeal_nodes_and_scores_proper (hPre_nodes_and_scores_proper := Cert.Gcn.preFacts) m' := by
    intro c
    obtain ⟨e0, e1, e2, e3, e4, e5, e6, e7, e8, e9, e10, e11⟩ := hargs c
    have hp := hpre c
    rw [← e0, ← e1, ← e2, ← e3, ← e4, ← e5, ← e6, ← e7, ← e8, ← e9, ← e10, ← e11] at hp
    exact hp
  refine ⟨fun c => Cert.Gcn.kernelResult m c,
    (θ_run Cert.KernelIdeal.defs _ _).mono (fun r h c => ⟨(h c).1.trans (Cert.Gcn.array_eq m c), (h c).2⟩)
      (Cert.KernelIdeal.Value.run_blocks (F := Ideal) m g),
    (θ_run Cert.ReferenceIdeal.defs _ _).mono (fun r h c => ⟨(h c).1.trans ?_, (h c).2⟩) (Cert.ReferenceIdeal.Value.run (F := Ideal) m' g')⟩
  obtain ⟨e0, -, -, -, -, -, -, -, e8, e9, e10, e11⟩ := hargs c
  obtain ⟨σ, hV⟩ := Cert.Gcn.proper_of_pre m' hpre' c
  exact Cert.Gcn.results_equal m m' c hV e0 e8 e9 e10 e11

/-- All the claims. -/
theorem claim : Cert.Claim := ⟨Cert.Kernel.Gen.facts, Cert.KernelIdeal.Gen.facts, Cert.ReferenceIdeal.Gen.facts, Cert.Gcn.preFacts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, values⟩

end Cert.Proof

end
